-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelLn0 (m : (ℓ : Loc Cert.KernelLn0.nD Cert.KernelLn0.τ Cert.KernelLn0.sig) → Buf (Elt Bits) ℓ) : Prop :=
  True

def Pre_KernelLn0Ideal (m : (ℓ : Loc Cert.KernelLn0Ideal.nD Cert.KernelLn0Ideal.τ Cert.KernelLn0Ideal.sig) → Buf (Elt Ideal) ℓ) : Prop :=
  True

def Pre_ReferenceLn0Ideal (m : (ℓ : Loc Cert.ReferenceLn0Ideal.nD Cert.ReferenceLn0Ideal.τ Cert.ReferenceLn0Ideal.sig) → Buf (Elt Ideal) ℓ) : Prop :=
  True

def Pre_KernelInProj (m : (ℓ : Loc Cert.KernelInProj.nD Cert.KernelInProj.τ Cert.KernelInProj.sig) → Buf (Elt Bits) ℓ) : Prop :=
  True

def Pre_KernelInProjIdeal (m : (ℓ : Loc Cert.KernelInProjIdeal.nD Cert.KernelInProjIdeal.τ Cert.KernelInProjIdeal.sig) → Buf (Elt Ideal) ℓ) : Prop :=
  True

def Pre_ReferenceInProjIdeal (m : (ℓ : Loc Cert.ReferenceInProjIdeal.nD Cert.ReferenceInProjIdeal.τ Cert.ReferenceInProjIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelResLn (m : (ℓ : Loc Cert.KernelResLn.nD Cert.KernelResLn.τ Cert.KernelResLn.sig) → Buf (Elt Bits) ℓ) : Prop :=
  True

def Pre_KernelResLnIdeal (m : (ℓ : Loc Cert.KernelResLnIdeal.nD Cert.KernelResLnIdeal.τ Cert.KernelResLnIdeal.sig) → Buf (Elt Ideal) ℓ) : Prop :=
  True

def Pre_ReferenceResLnIdeal (m : (ℓ : Loc Cert.ReferenceResLnIdeal.nD Cert.ReferenceResLnIdeal.τ Cert.ReferenceResLnIdeal.sig) → Buf (Elt Ideal) ℓ) : Prop :=
  True

def Pre_KernelFilters (m : (ℓ : Loc Cert.KernelFilters.nD Cert.KernelFilters.τ Cert.KernelFilters.sig) → Buf (Elt Bits) ℓ) : Prop :=
  True

def Pre_KernelFiltersIdeal (m : (ℓ : Loc Cert.KernelFiltersIdeal.nD Cert.KernelFiltersIdeal.τ Cert.KernelFiltersIdeal.sig) → Buf (Elt Ideal) ℓ) : Prop :=
  True

def Pre_ReferenceFiltersIdeal (m : (ℓ : Loc Cert.ReferenceFiltersIdeal.nD Cert.ReferenceFiltersIdeal.τ Cert.ReferenceFiltersIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelLn0 [hKernelLn0 : Cert.KernelLn0.Facts] : Prop :=
  ∀ (m : (ℓ : Loc Cert.KernelLn0.nD Cert.KernelLn0.τ Cert.KernelLn0.sig) → Buf (Elt Bits) ℓ) (g : Dev Cert.KernelLn0.nD → PrngReg), Pre_KernelLn0 m →
    θ_run (Cert.KernelLn0.defs (F := Bits)) (onTc (τ := Cert.KernelLn0.τ) (Cert.KernelLn0.main (F := Bits))) ⟨m, fun _ => 0, g⟩ (fun r => (∀ c : Dev Cert.KernelLn0.nD,
      r.2.mem ((c.tc : Thread Cert.KernelLn0.nD Cert.KernelLn0.τ).loc Cert.KernelLn0.main_arg0) = m ((c.tc : Thread Cert.KernelLn0.nD Cert.KernelLn0.τ).loc Cert.KernelLn0.main_arg0)
      ∧ r.2.mem ((c.tc : Thread Cert.KernelLn0.nD Cert.KernelLn0.τ).loc Cert.KernelLn0.main_arg1) = m ((c.tc : Thread Cert.KernelLn0.nD Cert.KernelLn0.τ).loc Cert.KernelLn0.main_arg1)
      ∧ r.2.mem ((c.tc : Thread Cert.KernelLn0.nD Cert.KernelLn0.τ).loc Cert.KernelLn0.main_arg2) = m ((c.tc : Thread Cert.KernelLn0.nD Cert.KernelLn0.τ).loc Cert.KernelLn0.main_arg2))
      ∧ r.2.sem = fun _ => 0)

def quiescent_KernelLn0Ideal [hKernelLn0Ideal : Cert.KernelLn0Ideal.Facts] : Prop :=
  ∀ (m : (ℓ : Loc Cert.KernelLn0Ideal.nD Cert.KernelLn0Ideal.τ Cert.KernelLn0Ideal.sig) → Buf (Elt Ideal) ℓ) (g : Dev Cert.KernelLn0Ideal.nD → PrngReg), Pre_KernelLn0Ideal m →
    θ_run (Cert.KernelLn0Ideal.defs (F := Ideal)) (onTc (τ := Cert.KernelLn0Ideal.τ) (Cert.KernelLn0Ideal.main (F := Ideal))) ⟨m, fun _ => 0, g⟩ (fun r => (∀ c : Dev Cert.KernelLn0Ideal.nD,
      r.2.mem ((c.tc : Thread Cert.KernelLn0Ideal.nD Cert.KernelLn0Ideal.τ).loc Cert.KernelLn0Ideal.main_arg0) = m ((c.tc : Thread Cert.KernelLn0Ideal.nD Cert.KernelLn0Ideal.τ).loc Cert.KernelLn0Ideal.main_arg0)
      ∧ r.2.mem ((c.tc : Thread Cert.KernelLn0Ideal.nD Cert.KernelLn0Ideal.τ).loc Cert.KernelLn0Ideal.main_arg1) = m ((c.tc : Thread Cert.KernelLn0Ideal.nD Cert.KernelLn0Ideal.τ).loc Cert.KernelLn0Ideal.main_arg1)
      ∧ r.2.mem ((c.tc : Thread Cert.KernelLn0Ideal.nD Cert.KernelLn0Ideal.τ).loc Cert.KernelLn0Ideal.main_arg2) = m ((c.tc : Thread Cert.KernelLn0Ideal.nD Cert.KernelLn0Ideal.τ).loc Cert.KernelLn0Ideal.main_arg2))
      ∧ r.2.sem = fun _ => 0)

def quiescent_ReferenceLn0Ideal [hReferenceLn0Ideal : Cert.ReferenceLn0Ideal.Facts] : Prop :=
  ∀ (m : (ℓ : Loc Cert.ReferenceLn0Ideal.nD Cert.ReferenceLn0Ideal.τ Cert.ReferenceLn0Ideal.sig) → Buf (Elt Ideal) ℓ) (g : Dev Cert.ReferenceLn0Ideal.nD → PrngReg), Pre_ReferenceLn0Ideal m →
    θ_run (Cert.ReferenceLn0Ideal.defs (F := Ideal)) (onTc (τ := Cert.ReferenceLn0Ideal.τ) (Cert.ReferenceLn0Ideal.main (F := Ideal))) ⟨m, fun _ => 0, g⟩ (fun r => (∀ c : Dev Cert.ReferenceLn0Ideal.nD,
      r.2.mem ((c.tc : Thread Cert.ReferenceLn0Ideal.nD Cert.ReferenceLn0Ideal.τ).loc Cert.ReferenceLn0Ideal.main_arg0) = m ((c.tc : Thread Cert.ReferenceLn0Ideal.nD Cert.ReferenceLn0Ideal.τ).loc Cert.ReferenceLn0Ideal.main_arg0)
      ∧ r.2.mem ((c.tc : Thread Cert.ReferenceLn0Ideal.nD Cert.ReferenceLn0Ideal.τ).loc Cert.ReferenceLn0Ideal.main_arg1) = m ((c.tc : Thread Cert.ReferenceLn0Ideal.nD Cert.ReferenceLn0Ideal.τ).loc Cert.ReferenceLn0Ideal.main_arg1)
      ∧ r.2.mem ((c.tc : Thread Cert.ReferenceLn0Ideal.nD Cert.ReferenceLn0Ideal.τ).loc Cert.ReferenceLn0Ideal.main_arg2) = m ((c.tc : Thread Cert.ReferenceLn0Ideal.nD Cert.ReferenceLn0Ideal.τ).loc Cert.ReferenceLn0Ideal.main_arg2))
      ∧ r.2.sem = fun _ => 0)

def quiescent_KernelInProj [hKernelInProj : Cert.KernelInProj.Facts] : Prop :=
  ∀ (m : (ℓ : Loc Cert.KernelInProj.nD Cert.KernelInProj.τ Cert.KernelInProj.sig) → Buf (Elt Bits) ℓ) (g : Dev Cert.KernelInProj.nD → PrngReg), Pre_KernelInProj m →
    θ_run (Cert.KernelInProj.defs (F := Bits)) (onTc (τ := Cert.KernelInProj.τ) (Cert.KernelInProj.main (F := Bits))) ⟨m, fun _ => 0, g⟩ (fun r => (∀ c : Dev Cert.KernelInProj.nD,
      r.2.mem ((c.tc : Thread Cert.KernelInProj.nD Cert.KernelInProj.τ).loc Cert.KernelInProj.main_arg0) = m ((c.tc : Thread Cert.KernelInProj.nD Cert.KernelInProj.τ).loc Cert.KernelInProj.main_arg0)
      ∧ r.2.mem ((c.tc : Thread Cert.KernelInProj.nD Cert.KernelInProj.τ).loc Cert.KernelInProj.main_arg1) = m ((c.tc : Thread Cert.KernelInProj.nD Cert.KernelInProj.τ).loc Cert.KernelInProj.main_arg1))
      ∧ r.2.sem = fun _ => 0)

def quiescent_KernelInProjIdeal [hKernelInProjIdeal : Cert.KernelInProjIdeal.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg), Pre_KernelInProjIdeal m →
    θ_run (Cert.KernelInProjIdeal.defs (F := Ideal)) (onTc (τ := Cert.KernelInProjIdeal.τ) (Cert.KernelInProjIdeal.main (F := Ideal))) ⟨m, fun _ => 0, g⟩ (fun r => (∀ c : Dev Cert.KernelInProjIdeal.nD,
      r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
      ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1))
      ∧ r.2.sem = fun _ => 0)

def quiescent_ReferenceInProjIdeal [hReferenceInProjIdeal : Cert.ReferenceInProjIdeal.Facts] : Prop :=
  ∀ (m : (ℓ : Loc Cert.ReferenceInProjIdeal.nD Cert.ReferenceInProjIdeal.τ Cert.ReferenceInProjIdeal.sig) → Buf (Elt Ideal) ℓ) (g : Dev Cert.ReferenceInProjIdeal.nD → PrngReg), Pre_ReferenceInProjIdeal m →
    θ_run (Cert.ReferenceInProjIdeal.defs (F := Ideal)) (onTc (τ := Cert.ReferenceInProjIdeal.τ) (Cert.ReferenceInProjIdeal.main (F := Ideal))) ⟨m, fun _ => 0, g⟩ (fun r => (∀ c : Dev Cert.ReferenceInProjIdeal.nD,
      r.2.mem ((c.tc : Thread Cert.ReferenceInProjIdeal.nD Cert.ReferenceInProjIdeal.τ).loc Cert.ReferenceInProjIdeal.main_arg0) = m ((c.tc : Thread Cert.ReferenceInProjIdeal.nD Cert.ReferenceInProjIdeal.τ).loc Cert.ReferenceInProjIdeal.main_arg0)
      ∧ r.2.mem ((c.tc : Thread Cert.ReferenceInProjIdeal.nD Cert.ReferenceInProjIdeal.τ).loc Cert.ReferenceInProjIdeal.main_arg1) = m ((c.tc : Thread Cert.ReferenceInProjIdeal.nD Cert.ReferenceInProjIdeal.τ).loc Cert.ReferenceInProjIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def quiescent_KernelResLn [hKernelResLn : Cert.KernelResLn.Facts] : Prop :=
  ∀ (m : (ℓ : Loc Cert.KernelResLn.nD Cert.KernelResLn.τ Cert.KernelResLn.sig) → Buf (Elt Bits) ℓ) (g : Dev Cert.KernelResLn.nD → PrngReg), Pre_KernelResLn m →
    θ_run (Cert.KernelResLn.defs (F := Bits)) (onTc (τ := Cert.KernelResLn.τ) (Cert.KernelResLn.main (F := Bits))) ⟨m, fun _ => 0, g⟩ (fun r => (∀ c : Dev Cert.KernelResLn.nD,
      r.2.mem ((c.tc : Thread Cert.KernelResLn.nD Cert.KernelResLn.τ).loc Cert.KernelResLn.main_arg0) = m ((c.tc : Thread Cert.KernelResLn.nD Cert.KernelResLn.τ).loc Cert.KernelResLn.main_arg0)
      ∧ r.2.mem ((c.tc : Thread Cert.KernelResLn.nD Cert.KernelResLn.τ).loc Cert.KernelResLn.main_arg1) = m ((c.tc : Thread Cert.KernelResLn.nD Cert.KernelResLn.τ).loc Cert.KernelResLn.main_arg1)
      ∧ r.2.mem ((c.tc : Thread Cert.KernelResLn.nD Cert.KernelResLn.τ).loc Cert.KernelResLn.main_arg2) = m ((c.tc : Thread Cert.KernelResLn.nD Cert.KernelResLn.τ).loc Cert.KernelResLn.main_arg2)
      ∧ r.2.mem ((c.tc : Thread Cert.KernelResLn.nD Cert.KernelResLn.τ).loc Cert.KernelResLn.main_arg3) = m ((c.tc : Thread Cert.KernelResLn.nD Cert.KernelResLn.τ).loc Cert.KernelResLn.main_arg3))
      ∧ r.2.sem = fun _ => 0)

def quiescent_KernelResLnIdeal [hKernelResLnIdeal : Cert.KernelResLnIdeal.Facts] : Prop :=
  ∀ (m : (ℓ : Loc Cert.KernelResLnIdeal.nD Cert.KernelResLnIdeal.τ Cert.KernelResLnIdeal.sig) → Buf (Elt Ideal) ℓ) (g : Dev Cert.KernelResLnIdeal.nD → PrngReg), Pre_KernelResLnIdeal m →
    θ_run (Cert.KernelResLnIdeal.defs (F := Ideal)) (onTc (τ := Cert.KernelResLnIdeal.τ) (Cert.KernelResLnIdeal.main (F := Ideal))) ⟨m, fun _ => 0, g⟩ (fun r => (∀ c : Dev Cert.KernelResLnIdeal.nD,
      r.2.mem ((c.tc : Thread Cert.KernelResLnIdeal.nD Cert.KernelResLnIdeal.τ).loc Cert.KernelResLnIdeal.main_arg0) = m ((c.tc : Thread Cert.KernelResLnIdeal.nD Cert.KernelResLnIdeal.τ).loc Cert.KernelResLnIdeal.main_arg0)
      ∧ r.2.mem ((c.tc : Thread Cert.KernelResLnIdeal.nD Cert.KernelResLnIdeal.τ).loc Cert.KernelResLnIdeal.main_arg1) = m ((c.tc : Thread Cert.KernelResLnIdeal.nD Cert.KernelResLnIdeal.τ).loc Cert.KernelResLnIdeal.main_arg1)
      ∧ r.2.mem ((c.tc : Thread Cert.KernelResLnIdeal.nD Cert.KernelResLnIdeal.τ).loc Cert.KernelResLnIdeal.main_arg2) = m ((c.tc : Thread Cert.KernelResLnIdeal.nD Cert.KernelResLnIdeal.τ).loc Cert.KernelResLnIdeal.main_arg2)
      ∧ r.2.mem ((c.tc : Thread Cert.KernelResLnIdeal.nD Cert.KernelResLnIdeal.τ).loc Cert.KernelResLnIdeal.main_arg3) = m ((c.tc : Thread Cert.KernelResLnIdeal.nD Cert.KernelResLnIdeal.τ).loc Cert.KernelResLnIdeal.main_arg3))
      ∧ r.2.sem = fun _ => 0)

def quiescent_ReferenceResLnIdeal [hReferenceResLnIdeal : Cert.ReferenceResLnIdeal.Facts] : Prop :=
  ∀ (m : (ℓ : Loc Cert.ReferenceResLnIdeal.nD Cert.ReferenceResLnIdeal.τ Cert.ReferenceResLnIdeal.sig) → Buf (Elt Ideal) ℓ) (g : Dev Cert.ReferenceResLnIdeal.nD → PrngReg), Pre_ReferenceResLnIdeal m →
    θ_run (Cert.ReferenceResLnIdeal.defs (F := Ideal)) (onTc (τ := Cert.ReferenceResLnIdeal.τ) (Cert.ReferenceResLnIdeal.main (F := Ideal))) ⟨m, fun _ => 0, g⟩ (fun r => (∀ c : Dev Cert.ReferenceResLnIdeal.nD,
      r.2.mem ((c.tc : Thread Cert.ReferenceResLnIdeal.nD Cert.ReferenceResLnIdeal.τ).loc Cert.ReferenceResLnIdeal.main_arg0) = m ((c.tc : Thread Cert.ReferenceResLnIdeal.nD Cert.ReferenceResLnIdeal.τ).loc Cert.ReferenceResLnIdeal.main_arg0)
      ∧ r.2.mem ((c.tc : Thread Cert.ReferenceResLnIdeal.nD Cert.ReferenceResLnIdeal.τ).loc Cert.ReferenceResLnIdeal.main_arg1) = m ((c.tc : Thread Cert.ReferenceResLnIdeal.nD Cert.ReferenceResLnIdeal.τ).loc Cert.ReferenceResLnIdeal.main_arg1)
      ∧ r.2.mem ((c.tc : Thread Cert.ReferenceResLnIdeal.nD Cert.ReferenceResLnIdeal.τ).loc Cert.ReferenceResLnIdeal.main_arg2) = m ((c.tc : Thread Cert.ReferenceResLnIdeal.nD Cert.ReferenceResLnIdeal.τ).loc Cert.ReferenceResLnIdeal.main_arg2)
      ∧ r.2.mem ((c.tc : Thread Cert.ReferenceResLnIdeal.nD Cert.ReferenceResLnIdeal.τ).loc Cert.ReferenceResLnIdeal.main_arg3) = m ((c.tc : Thread Cert.ReferenceResLnIdeal.nD Cert.ReferenceResLnIdeal.τ).loc Cert.ReferenceResLnIdeal.main_arg3))
      ∧ r.2.sem = fun _ => 0)

def quiescent_KernelFilters [hKernelFilters : Cert.KernelFilters.Facts] : Prop :=
  ∀ (m : (ℓ : Loc Cert.KernelFilters.nD Cert.KernelFilters.τ Cert.KernelFilters.sig) → Buf (Elt Bits) ℓ) (g : Dev Cert.KernelFilters.nD → PrngReg), Pre_KernelFilters m →
    θ_run (Cert.KernelFilters.defs (F := Bits)) (onTc (τ := Cert.KernelFilters.τ) (Cert.KernelFilters.main (F := Bits))) ⟨m, fun _ => 0, g⟩ (fun r => (∀ c : Dev Cert.KernelFilters.nD,
      r.2.mem ((c.tc : Thread Cert.KernelFilters.nD Cert.KernelFilters.τ).loc Cert.KernelFilters.main_arg0) = m ((c.tc : Thread Cert.KernelFilters.nD Cert.KernelFilters.τ).loc Cert.KernelFilters.main_arg0)
      ∧ r.2.mem ((c.tc : Thread Cert.KernelFilters.nD Cert.KernelFilters.τ).loc Cert.KernelFilters.main_arg1) = m ((c.tc : Thread Cert.KernelFilters.nD Cert.KernelFilters.τ).loc Cert.KernelFilters.main_arg1)
      ∧ r.2.mem ((c.tc : Thread Cert.KernelFilters.nD Cert.KernelFilters.τ).loc Cert.KernelFilters.main_arg2) = m ((c.tc : Thread Cert.KernelFilters.nD Cert.KernelFilters.τ).loc Cert.KernelFilters.main_arg2)
      ∧ r.2.mem ((c.tc : Thread Cert.KernelFilters.nD Cert.KernelFilters.τ).loc Cert.KernelFilters.main_arg3) = m ((c.tc : Thread Cert.KernelFilters.nD Cert.KernelFilters.τ).loc Cert.KernelFilters.main_arg3)
      ∧ r.2.mem ((c.tc : Thread Cert.KernelFilters.nD Cert.KernelFilters.τ).loc Cert.KernelFilters.main_arg4) = m ((c.tc : Thread Cert.KernelFilters.nD Cert.KernelFilters.τ).loc Cert.KernelFilters.main_arg4)
      ∧ r.2.mem ((c.tc : Thread Cert.KernelFilters.nD Cert.KernelFilters.τ).loc Cert.KernelFilters.main_arg5) = m ((c.tc : Thread Cert.KernelFilters.nD Cert.KernelFilters.τ).loc Cert.KernelFilters.main_arg5)
      ∧ r.2.mem ((c.tc : Thread Cert.KernelFilters.nD Cert.KernelFilters.τ).loc Cert.KernelFilters.main_arg6) = m ((c.tc : Thread Cert.KernelFilters.nD Cert.KernelFilters.τ).loc Cert.KernelFilters.main_arg6)
      ∧ r.2.mem ((c.tc : Thread Cert.KernelFilters.nD Cert.KernelFilters.τ).loc Cert.KernelFilters.main_arg7) = m ((c.tc : Thread Cert.KernelFilters.nD Cert.KernelFilters.τ).loc Cert.KernelFilters.main_arg7))
      ∧ r.2.sem = fun _ => 0)

def quiescent_KernelFiltersIdeal [hKernelFiltersIdeal : Cert.KernelFiltersIdeal.Facts] : Prop :=
  ∀ (m : (ℓ : Loc Cert.KernelFiltersIdeal.nD Cert.KernelFiltersIdeal.τ Cert.KernelFiltersIdeal.sig) → Buf (Elt Ideal) ℓ) (g : Dev Cert.KernelFiltersIdeal.nD → PrngReg), Pre_KernelFiltersIdeal m →
    θ_run (Cert.KernelFiltersIdeal.defs (F := Ideal)) (onTc (τ := Cert.KernelFiltersIdeal.τ) (Cert.KernelFiltersIdeal.main (F := Ideal))) ⟨m, fun _ => 0, g⟩ (fun r => (∀ c : Dev Cert.KernelFiltersIdeal.nD,
      r.2.mem ((c.tc : Thread Cert.KernelFiltersIdeal.nD Cert.KernelFiltersIdeal.τ).loc Cert.KernelFiltersIdeal.main_arg0) = m ((c.tc : Thread Cert.KernelFiltersIdeal.nD Cert.KernelFiltersIdeal.τ).loc Cert.KernelFiltersIdeal.main_arg0)
      ∧ r.2.mem ((c.tc : Thread Cert.KernelFiltersIdeal.nD Cert.KernelFiltersIdeal.τ).loc Cert.KernelFiltersIdeal.main_arg1) = m ((c.tc : Thread Cert.KernelFiltersIdeal.nD Cert.KernelFiltersIdeal.τ).loc Cert.KernelFiltersIdeal.main_arg1)
      ∧ r.2.mem ((c.tc : Thread Cert.KernelFiltersIdeal.nD Cert.KernelFiltersIdeal.τ).loc Cert.KernelFiltersIdeal.main_arg2) = m ((c.tc : Thread Cert.KernelFiltersIdeal.nD Cert.KernelFiltersIdeal.τ).loc Cert.KernelFiltersIdeal.main_arg2)
      ∧ r.2.mem ((c.tc : Thread Cert.KernelFiltersIdeal.nD Cert.KernelFiltersIdeal.τ).loc Cert.KernelFiltersIdeal.main_arg3) = m ((c.tc : Thread Cert.KernelFiltersIdeal.nD Cert.KernelFiltersIdeal.τ).loc Cert.KernelFiltersIdeal.main_arg3)
      ∧ r.2.mem ((c.tc : Thread Cert.KernelFiltersIdeal.nD Cert.KernelFiltersIdeal.τ).loc Cert.KernelFiltersIdeal.main_arg4) = m ((c.tc : Thread Cert.KernelFiltersIdeal.nD Cert.KernelFiltersIdeal.τ).loc Cert.KernelFiltersIdeal.main_arg4)
      ∧ r.2.mem ((c.tc : Thread Cert.KernelFiltersIdeal.nD Cert.KernelFiltersIdeal.τ).loc Cert.KernelFiltersIdeal.main_arg5) = m ((c.tc : Thread Cert.KernelFiltersIdeal.nD Cert.KernelFiltersIdeal.τ).loc Cert.KernelFiltersIdeal.main_arg5)
      ∧ r.2.mem ((c.tc : Thread Cert.KernelFiltersIdeal.nD Cert.KernelFiltersIdeal.τ).loc Cert.KernelFiltersIdeal.main_arg6) = m ((c.tc : Thread Cert.KernelFiltersIdeal.nD Cert.KernelFiltersIdeal.τ).loc Cert.KernelFiltersIdeal.main_arg6)
      ∧ r.2.mem ((c.tc : Thread Cert.KernelFiltersIdeal.nD Cert.KernelFiltersIdeal.τ).loc Cert.KernelFiltersIdeal.main_arg7) = m ((c.tc : Thread Cert.KernelFiltersIdeal.nD Cert.KernelFiltersIdeal.τ).loc Cert.KernelFiltersIdeal.main_arg7))
      ∧ r.2.sem = fun _ => 0)

def quiescent_ReferenceFiltersIdeal [hReferenceFiltersIdeal : Cert.ReferenceFiltersIdeal.Facts] : Prop :=
  ∀ (m : (ℓ : Loc Cert.ReferenceFiltersIdeal.nD Cert.ReferenceFiltersIdeal.τ Cert.ReferenceFiltersIdeal.sig) → Buf (Elt Ideal) ℓ) (g : Dev Cert.ReferenceFiltersIdeal.nD → PrngReg), Pre_ReferenceFiltersIdeal m →
    θ_run (Cert.ReferenceFiltersIdeal.defs (F := Ideal)) (onTc (τ := Cert.ReferenceFiltersIdeal.τ) (Cert.ReferenceFiltersIdeal.main (F := Ideal))) ⟨m, fun _ => 0, g⟩ (fun r => (∀ c : Dev Cert.ReferenceFiltersIdeal.nD,
      r.2.mem ((c.tc : Thread Cert.ReferenceFiltersIdeal.nD Cert.ReferenceFiltersIdeal.τ).loc Cert.ReferenceFiltersIdeal.main_arg0) = m ((c.tc : Thread Cert.ReferenceFiltersIdeal.nD Cert.ReferenceFiltersIdeal.τ).loc Cert.ReferenceFiltersIdeal.main_arg0)
      ∧ r.2.mem ((c.tc : Thread Cert.ReferenceFiltersIdeal.nD Cert.ReferenceFiltersIdeal.τ).loc Cert.ReferenceFiltersIdeal.main_arg1) = m ((c.tc : Thread Cert.ReferenceFiltersIdeal.nD Cert.ReferenceFiltersIdeal.τ).loc Cert.ReferenceFiltersIdeal.main_arg1)
      ∧ r.2.mem ((c.tc : Thread Cert.ReferenceFiltersIdeal.nD Cert.ReferenceFiltersIdeal.τ).loc Cert.ReferenceFiltersIdeal.main_arg2) = m ((c.tc : Thread Cert.ReferenceFiltersIdeal.nD Cert.ReferenceFiltersIdeal.τ).loc Cert.ReferenceFiltersIdeal.main_arg2)
      ∧ r.2.mem ((c.tc : Thread Cert.ReferenceFiltersIdeal.nD Cert.ReferenceFiltersIdeal.τ).loc Cert.ReferenceFiltersIdeal.main_arg3) = m ((c.tc : Thread Cert.ReferenceFiltersIdeal.nD Cert.ReferenceFiltersIdeal.τ).loc Cert.ReferenceFiltersIdeal.main_arg3)
      ∧ r.2.mem ((c.tc : Thread Cert.ReferenceFiltersIdeal.nD Cert.ReferenceFiltersIdeal.τ).loc Cert.ReferenceFiltersIdeal.main_arg4) = m ((c.tc : Thread Cert.ReferenceFiltersIdeal.nD Cert.ReferenceFiltersIdeal.τ).loc Cert.ReferenceFiltersIdeal.main_arg4)
      ∧ r.2.mem ((c.tc : Thread Cert.ReferenceFiltersIdeal.nD Cert.ReferenceFiltersIdeal.τ).loc Cert.ReferenceFiltersIdeal.main_arg5) = m ((c.tc : Thread Cert.ReferenceFiltersIdeal.nD Cert.ReferenceFiltersIdeal.τ).loc Cert.ReferenceFiltersIdeal.main_arg5)
      ∧ r.2.mem ((c.tc : Thread Cert.ReferenceFiltersIdeal.nD Cert.ReferenceFiltersIdeal.τ).loc Cert.ReferenceFiltersIdeal.main_arg6) = m ((c.tc : Thread Cert.ReferenceFiltersIdeal.nD Cert.ReferenceFiltersIdeal.τ).loc Cert.ReferenceFiltersIdeal.main_arg6)
      ∧ r.2.mem ((c.tc : Thread Cert.ReferenceFiltersIdeal.nD Cert.ReferenceFiltersIdeal.τ).loc Cert.ReferenceFiltersIdeal.main_arg7) = m ((c.tc : Thread Cert.ReferenceFiltersIdeal.nD Cert.ReferenceFiltersIdeal.τ).loc Cert.ReferenceFiltersIdeal.main_arg7))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelLn0_KernelLn0Ideal : Prop :=
  True

def algebraic_KernelLn0Ideal_ReferenceLn0Ideal [hKernelLn0Ideal : Cert.KernelLn0Ideal.Facts] [hReferenceLn0Ideal : Cert.ReferenceLn0Ideal.Facts] : Prop :=
  ∀ (m : (ℓ : Loc Cert.KernelLn0Ideal.nD Cert.KernelLn0Ideal.τ Cert.KernelLn0Ideal.sig) → Buf (Elt Ideal) ℓ) (g : Dev Cert.KernelLn0Ideal.nD → PrngReg)
    (m' : (ℓ : Loc Cert.ReferenceLn0Ideal.nD Cert.ReferenceLn0Ideal.τ Cert.ReferenceLn0Ideal.sig) → Buf (Elt Ideal) ℓ) (g' : Dev Cert.ReferenceLn0Ideal.nD → PrngReg), Pre_KernelLn0Ideal m →
    (∀ c : Dev Cert.KernelLn0Ideal.nD,
      m' ((c.tc : Thread Cert.ReferenceLn0Ideal.nD Cert.ReferenceLn0Ideal.τ).loc Cert.ReferenceLn0Ideal.main_arg0) = m ((c.tc : Thread Cert.KernelLn0Ideal.nD Cert.KernelLn0Ideal.τ).loc Cert.KernelLn0Ideal.main_arg0)
      ∧ m' ((c.tc : Thread Cert.ReferenceLn0Ideal.nD Cert.ReferenceLn0Ideal.τ).loc Cert.ReferenceLn0Ideal.main_arg1) = m ((c.tc : Thread Cert.KernelLn0Ideal.nD Cert.KernelLn0Ideal.τ).loc Cert.KernelLn0Ideal.main_arg1)
      ∧ m' ((c.tc : Thread Cert.ReferenceLn0Ideal.nD Cert.ReferenceLn0Ideal.τ).loc Cert.ReferenceLn0Ideal.main_arg2) = m ((c.tc : Thread Cert.KernelLn0Ideal.nD Cert.KernelLn0Ideal.τ).loc Cert.KernelLn0Ideal.main_arg2)) →
    ∃ (v0 : (c : Dev Cert.KernelLn0Ideal.nD) → Buf (Elt Ideal) ((c.tc : Thread Cert.KernelLn0Ideal.nD Cert.KernelLn0Ideal.τ).loc Cert.KernelLn0Ideal.main_v3_0)) (v1 : (c : Dev Cert.KernelLn0Ideal.nD) → Buf (Elt Ideal) ((c.tc : Thread Cert.KernelLn0Ideal.nD Cert.KernelLn0Ideal.τ).loc Cert.KernelLn0Ideal.main_v3_1)),
      θ_run (Cert.KernelLn0Ideal.defs (F := Ideal)) (onTc (τ := Cert.KernelLn0Ideal.τ) (Cert.KernelLn0Ideal.main (F := Ideal))) ⟨m, fun _ => 0, g⟩ (fun r => ∀ c : Dev Cert.KernelLn0Ideal.nD,
          r.2.mem ((c.tc : Thread Cert.KernelLn0Ideal.nD Cert.KernelLn0Ideal.τ).loc Cert.KernelLn0Ideal.main_v3_0) = v0 c
          ∧ r.2.mem ((c.tc : Thread Cert.KernelLn0Ideal.nD Cert.KernelLn0Ideal.τ).loc Cert.KernelLn0Ideal.main_v3_1) = v1 c
          ∧ r.2.mem ((c.tc : Thread Cert.KernelLn0Ideal.nD Cert.KernelLn0Ideal.τ).loc Cert.KernelLn0Ideal.main_arg0) = m ((c.tc : Thread Cert.KernelLn0Ideal.nD Cert.KernelLn0Ideal.τ).loc Cert.KernelLn0Ideal.main_arg0)
          ∧ r.2.mem ((c.tc : Thread Cert.KernelLn0Ideal.nD Cert.KernelLn0Ideal.τ).loc Cert.KernelLn0Ideal.main_arg1) = m ((c.tc : Thread Cert.KernelLn0Ideal.nD Cert.KernelLn0Ideal.τ).loc Cert.KernelLn0Ideal.main_arg1)
          ∧ r.2.mem ((c.tc : Thread Cert.KernelLn0Ideal.nD Cert.KernelLn0Ideal.τ).loc Cert.KernelLn0Ideal.main_arg2) = m ((c.tc : Thread Cert.KernelLn0Ideal.nD Cert.KernelLn0Ideal.τ).loc Cert.KernelLn0Ideal.main_arg2))
      ∧ θ_run (Cert.ReferenceLn0Ideal.defs (F := Ideal)) (onTc (τ := Cert.ReferenceLn0Ideal.τ) (Cert.ReferenceLn0Ideal.main (F := Ideal))) ⟨m', fun _ => 0, g'⟩ (fun r => ∀ c : Dev Cert.ReferenceLn0Ideal.nD,
          r.2.mem ((c.tc : Thread Cert.ReferenceLn0Ideal.nD Cert.ReferenceLn0Ideal.τ).loc Cert.ReferenceLn0Ideal.main_v24) = v0 c
          ∧ r.2.mem ((c.tc : Thread Cert.ReferenceLn0Ideal.nD Cert.ReferenceLn0Ideal.τ).loc Cert.ReferenceLn0Ideal.main_v25) = v1 c
          ∧ r.2.mem ((c.tc : Thread Cert.ReferenceLn0Ideal.nD Cert.ReferenceLn0Ideal.τ).loc Cert.ReferenceLn0Ideal.main_arg0) = m' ((c.tc : Thread Cert.ReferenceLn0Ideal.nD Cert.ReferenceLn0Ideal.τ).loc Cert.ReferenceLn0Ideal.main_arg0)
          ∧ r.2.mem ((c.tc : Thread Cert.ReferenceLn0Ideal.nD Cert.ReferenceLn0Ideal.τ).loc Cert.ReferenceLn0Ideal.main_arg1) = m' ((c.tc : Thread Cert.ReferenceLn0Ideal.nD Cert.ReferenceLn0Ideal.τ).loc Cert.ReferenceLn0Ideal.main_arg1)
          ∧ r.2.mem ((c.tc : Thread Cert.ReferenceLn0Ideal.nD Cert.ReferenceLn0Ideal.τ).loc Cert.ReferenceLn0Ideal.main_arg2) = m' ((c.tc : Thread Cert.ReferenceLn0Ideal.nD Cert.ReferenceLn0Ideal.τ).loc Cert.ReferenceLn0Ideal.main_arg2))

def preserves_KernelInProj_KernelInProjIdeal : Prop :=
  True

def algebraic_KernelInProjIdeal_ReferenceInProjIdeal [hKernelInProjIdeal : Cert.KernelInProjIdeal.Facts] [hReferenceInProjIdeal : Cert.ReferenceInProjIdeal.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg)
    (m' : (ℓ : Loc Cert.ReferenceInProjIdeal.nD Cert.ReferenceInProjIdeal.τ Cert.ReferenceInProjIdeal.sig) → Buf (Elt Ideal) ℓ) (g' : Dev Cert.ReferenceInProjIdeal.nD → PrngReg), Pre_KernelInProjIdeal m →
    (∀ c : Dev Cert.KernelInProjIdeal.nD,
      m' ((c.tc : Thread Cert.ReferenceInProjIdeal.nD Cert.ReferenceInProjIdeal.τ).loc Cert.ReferenceInProjIdeal.main_arg0) = m ((c.tc : Thread Cert.KernelInProjIdeal.nD Cert.KernelInProjIdeal.τ).loc Cert.KernelInProjIdeal.main_arg0)
      ∧ m' ((c.tc : Thread Cert.ReferenceInProjIdeal.nD Cert.ReferenceInProjIdeal.τ).loc Cert.ReferenceInProjIdeal.main_arg1) = m ((c.tc : Thread Cert.KernelInProjIdeal.nD Cert.KernelInProjIdeal.τ).loc Cert.KernelInProjIdeal.main_arg1)) →
    ∃ (v0 : (c : Dev Cert.KernelInProjIdeal.nD) → Buf (Elt Ideal) ((c.tc : Thread Cert.KernelInProjIdeal.nD Cert.KernelInProjIdeal.τ).loc Cert.KernelInProjIdeal.main_v2)),
      θ_run (Cert.KernelInProjIdeal.defs (F := Ideal)) (onTc (τ := Cert.KernelInProjIdeal.τ) (Cert.KernelInProjIdeal.main (F := Ideal))) ⟨m, fun _ => 0, g⟩ (fun r => ∀ c : Dev Cert.KernelInProjIdeal.nD,
          r.2.mem ((c.tc : Thread Cert.KernelInProjIdeal.nD Cert.KernelInProjIdeal.τ).loc Cert.KernelInProjIdeal.main_v2) = v0 c
          ∧ r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
          ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1))
      ∧ θ_run (Cert.ReferenceInProjIdeal.defs (F := Ideal)) (onTc (τ := Cert.ReferenceInProjIdeal.τ) (Cert.ReferenceInProjIdeal.main (F := Ideal))) ⟨m', fun _ => 0, g'⟩ (fun r => ∀ c : Dev Cert.ReferenceInProjIdeal.nD,
          r.2.mem ((c.tc : Thread Cert.ReferenceInProjIdeal.nD Cert.ReferenceInProjIdeal.τ).loc Cert.ReferenceInProjIdeal.main_v2) = v0 c
          ∧ r.2.mem ((c.tc : Thread Cert.ReferenceInProjIdeal.nD Cert.ReferenceInProjIdeal.τ).loc Cert.ReferenceInProjIdeal.main_arg0) = m' ((c.tc : Thread Cert.ReferenceInProjIdeal.nD Cert.ReferenceInProjIdeal.τ).loc Cert.ReferenceInProjIdeal.main_arg0)
          ∧ r.2.mem ((c.tc : Thread Cert.ReferenceInProjIdeal.nD Cert.ReferenceInProjIdeal.τ).loc Cert.ReferenceInProjIdeal.main_arg1) = m' ((c.tc : Thread Cert.ReferenceInProjIdeal.nD Cert.ReferenceInProjIdeal.τ).loc Cert.ReferenceInProjIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)) →
    ∃ (v0 : (c : Dev Cert.KernelMixIdeal.nD) → Buf (Elt Ideal) ((c.tc : Thread Cert.KernelMixIdeal.nD Cert.KernelMixIdeal.τ).loc Cert.KernelMixIdeal.main_v9_0)) (v1 : (c : Dev Cert.KernelMixIdeal.nD) → Buf (Elt Ideal) ((c.tc : Thread Cert.KernelMixIdeal.nD Cert.KernelMixIdeal.τ).loc Cert.KernelMixIdeal.main_v9_1)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v9_0) = v0 c
          ∧ r.2.mem ((c.tc : Thread Cert.KernelMixIdeal.nD Cert.KernelMixIdeal.τ).loc Cert.KernelMixIdeal.main_v9_1) = v1 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v50) = v0 c
          ∧ r.2.mem ((c.tc : Thread Cert.ReferenceMixIdeal.nD Cert.ReferenceMixIdeal.τ).loc Cert.ReferenceMixIdeal.main_v52) = v1 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6))

def preserves_KernelResLn_KernelResLnIdeal : Prop :=
  True

def algebraic_KernelResLnIdeal_ReferenceResLnIdeal [hKernelResLnIdeal : Cert.KernelResLnIdeal.Facts] [hReferenceResLnIdeal : Cert.ReferenceResLnIdeal.Facts] : Prop :=
  ∀ (m : (ℓ : Loc Cert.KernelResLnIdeal.nD Cert.KernelResLnIdeal.τ Cert.KernelResLnIdeal.sig) → Buf (Elt Ideal) ℓ) (g : Dev Cert.KernelResLnIdeal.nD → PrngReg)
    (m' : (ℓ : Loc Cert.ReferenceResLnIdeal.nD Cert.ReferenceResLnIdeal.τ Cert.ReferenceResLnIdeal.sig) → Buf (Elt Ideal) ℓ) (g' : Dev Cert.ReferenceResLnIdeal.nD → PrngReg), Pre_KernelResLnIdeal m →
    (∀ c : Dev Cert.KernelResLnIdeal.nD,
      m' ((c.tc : Thread Cert.ReferenceResLnIdeal.nD Cert.ReferenceResLnIdeal.τ).loc Cert.ReferenceResLnIdeal.main_arg0) = m ((c.tc : Thread Cert.KernelResLnIdeal.nD Cert.KernelResLnIdeal.τ).loc Cert.KernelResLnIdeal.main_arg0)
      ∧ m' ((c.tc : Thread Cert.ReferenceResLnIdeal.nD Cert.ReferenceResLnIdeal.τ).loc Cert.ReferenceResLnIdeal.main_arg1) = m ((c.tc : Thread Cert.KernelResLnIdeal.nD Cert.KernelResLnIdeal.τ).loc Cert.KernelResLnIdeal.main_arg1)
      ∧ m' ((c.tc : Thread Cert.ReferenceResLnIdeal.nD Cert.ReferenceResLnIdeal.τ).loc Cert.ReferenceResLnIdeal.main_arg2) = m ((c.tc : Thread Cert.KernelResLnIdeal.nD Cert.KernelResLnIdeal.τ).loc Cert.KernelResLnIdeal.main_arg2)
      ∧ m' ((c.tc : Thread Cert.ReferenceResLnIdeal.nD Cert.ReferenceResLnIdeal.τ).loc Cert.ReferenceResLnIdeal.main_arg3) = m ((c.tc : Thread Cert.KernelResLnIdeal.nD Cert.KernelResLnIdeal.τ).loc Cert.KernelResLnIdeal.main_arg3)) →
    ∃ (v0 : (c : Dev Cert.KernelResLnIdeal.nD) → Buf (Elt Ideal) ((c.tc : Thread Cert.KernelResLnIdeal.nD Cert.KernelResLnIdeal.τ).loc Cert.KernelResLnIdeal.main_v4)),
      θ_run (Cert.KernelResLnIdeal.defs (F := Ideal)) (onTc (τ := Cert.KernelResLnIdeal.τ) (Cert.KernelResLnIdeal.main (F := Ideal))) ⟨m, fun _ => 0, g⟩ (fun r => ∀ c : Dev Cert.KernelResLnIdeal.nD,
          r.2.mem ((c.tc : Thread Cert.KernelResLnIdeal.nD Cert.KernelResLnIdeal.τ).loc Cert.KernelResLnIdeal.main_v4) = v0 c
          ∧ r.2.mem ((c.tc : Thread Cert.KernelResLnIdeal.nD Cert.KernelResLnIdeal.τ).loc Cert.KernelResLnIdeal.main_arg0) = m ((c.tc : Thread Cert.KernelResLnIdeal.nD Cert.KernelResLnIdeal.τ).loc Cert.KernelResLnIdeal.main_arg0)
          ∧ r.2.mem ((c.tc : Thread Cert.KernelResLnIdeal.nD Cert.KernelResLnIdeal.τ).loc Cert.KernelResLnIdeal.main_arg1) = m ((c.tc : Thread Cert.KernelResLnIdeal.nD Cert.KernelResLnIdeal.τ).loc Cert.KernelResLnIdeal.main_arg1)
          ∧ r.2.mem ((c.tc : Thread Cert.KernelResLnIdeal.nD Cert.KernelResLnIdeal.τ).loc Cert.KernelResLnIdeal.main_arg2) = m ((c.tc : Thread Cert.KernelResLnIdeal.nD Cert.KernelResLnIdeal.τ).loc Cert.KernelResLnIdeal.main_arg2)
          ∧ r.2.mem ((c.tc : Thread Cert.KernelResLnIdeal.nD Cert.KernelResLnIdeal.τ).loc Cert.KernelResLnIdeal.main_arg3) = m ((c.tc : Thread Cert.KernelResLnIdeal.nD Cert.KernelResLnIdeal.τ).loc Cert.KernelResLnIdeal.main_arg3))
      ∧ θ_run (Cert.ReferenceResLnIdeal.defs (F := Ideal)) (onTc (τ := Cert.ReferenceResLnIdeal.τ) (Cert.ReferenceResLnIdeal.main (F := Ideal))) ⟨m', fun _ => 0, g'⟩ (fun r => ∀ c : Dev Cert.ReferenceResLnIdeal.nD,
          r.2.mem ((c.tc : Thread Cert.ReferenceResLnIdeal.nD Cert.ReferenceResLnIdeal.τ).loc Cert.ReferenceResLnIdeal.main_v29) = v0 c
          ∧ r.2.mem ((c.tc : Thread Cert.ReferenceResLnIdeal.nD Cert.ReferenceResLnIdeal.τ).loc Cert.ReferenceResLnIdeal.main_arg0) = m' ((c.tc : Thread Cert.ReferenceResLnIdeal.nD Cert.ReferenceResLnIdeal.τ).loc Cert.ReferenceResLnIdeal.main_arg0)
          ∧ r.2.mem ((c.tc : Thread Cert.ReferenceResLnIdeal.nD Cert.ReferenceResLnIdeal.τ).loc Cert.ReferenceResLnIdeal.main_arg1) = m' ((c.tc : Thread Cert.ReferenceResLnIdeal.nD Cert.ReferenceResLnIdeal.τ).loc Cert.ReferenceResLnIdeal.main_arg1)
          ∧ r.2.mem ((c.tc : Thread Cert.ReferenceResLnIdeal.nD Cert.ReferenceResLnIdeal.τ).loc Cert.ReferenceResLnIdeal.main_arg2) = m' ((c.tc : Thread Cert.ReferenceResLnIdeal.nD Cert.ReferenceResLnIdeal.τ).loc Cert.ReferenceResLnIdeal.main_arg2)
          ∧ r.2.mem ((c.tc : Thread Cert.ReferenceResLnIdeal.nD Cert.ReferenceResLnIdeal.τ).loc Cert.ReferenceResLnIdeal.main_arg3) = m' ((c.tc : Thread Cert.ReferenceResLnIdeal.nD Cert.ReferenceResLnIdeal.τ).loc Cert.ReferenceResLnIdeal.main_arg3))

def preserves_KernelFilters_KernelFiltersIdeal : Prop :=
  True

def algebraic_KernelFiltersIdeal_ReferenceFiltersIdeal [hKernelFiltersIdeal : Cert.KernelFiltersIdeal.Facts] [hReferenceFiltersIdeal : Cert.ReferenceFiltersIdeal.Facts] : Prop :=
  ∀ (m : (ℓ : Loc Cert.KernelFiltersIdeal.nD Cert.KernelFiltersIdeal.τ Cert.KernelFiltersIdeal.sig) → Buf (Elt Ideal) ℓ) (g : Dev Cert.KernelFiltersIdeal.nD → PrngReg)
    (m' : (ℓ : Loc Cert.ReferenceFiltersIdeal.nD Cert.ReferenceFiltersIdeal.τ Cert.ReferenceFiltersIdeal.sig) → Buf (Elt Ideal) ℓ) (g' : Dev Cert.ReferenceFiltersIdeal.nD → PrngReg), Pre_KernelFiltersIdeal m →
    (∀ c : Dev Cert.KernelFiltersIdeal.nD,
      m' ((c.tc : Thread Cert.ReferenceFiltersIdeal.nD Cert.ReferenceFiltersIdeal.τ).loc Cert.ReferenceFiltersIdeal.main_arg0) = m ((c.tc : Thread Cert.KernelFiltersIdeal.nD Cert.KernelFiltersIdeal.τ).loc Cert.KernelFiltersIdeal.main_arg0)
      ∧ m' ((c.tc : Thread Cert.ReferenceFiltersIdeal.nD Cert.ReferenceFiltersIdeal.τ).loc Cert.ReferenceFiltersIdeal.main_arg1) = m ((c.tc : Thread Cert.KernelFiltersIdeal.nD Cert.KernelFiltersIdeal.τ).loc Cert.KernelFiltersIdeal.main_arg1)
      ∧ m' ((c.tc : Thread Cert.ReferenceFiltersIdeal.nD Cert.ReferenceFiltersIdeal.τ).loc Cert.ReferenceFiltersIdeal.main_arg2) = m ((c.tc : Thread Cert.KernelFiltersIdeal.nD Cert.KernelFiltersIdeal.τ).loc Cert.KernelFiltersIdeal.main_arg2)
      ∧ m' ((c.tc : Thread Cert.ReferenceFiltersIdeal.nD Cert.ReferenceFiltersIdeal.τ).loc Cert.ReferenceFiltersIdeal.main_arg3) = m ((c.tc : Thread Cert.KernelFiltersIdeal.nD Cert.KernelFiltersIdeal.τ).loc Cert.KernelFiltersIdeal.main_arg3)
      ∧ m' ((c.tc : Thread Cert.ReferenceFiltersIdeal.nD Cert.ReferenceFiltersIdeal.τ).loc Cert.ReferenceFiltersIdeal.main_arg4) = m ((c.tc : Thread Cert.KernelFiltersIdeal.nD Cert.KernelFiltersIdeal.τ).loc Cert.KernelFiltersIdeal.main_arg4)
      ∧ m' ((c.tc : Thread Cert.ReferenceFiltersIdeal.nD Cert.ReferenceFiltersIdeal.τ).loc Cert.ReferenceFiltersIdeal.main_arg5) = m ((c.tc : Thread Cert.KernelFiltersIdeal.nD Cert.KernelFiltersIdeal.τ).loc Cert.KernelFiltersIdeal.main_arg5)
      ∧ m' ((c.tc : Thread Cert.ReferenceFiltersIdeal.nD Cert.ReferenceFiltersIdeal.τ).loc Cert.ReferenceFiltersIdeal.main_arg6) = m ((c.tc : Thread Cert.KernelFiltersIdeal.nD Cert.KernelFiltersIdeal.τ).loc Cert.KernelFiltersIdeal.main_arg6)
      ∧ m' ((c.tc : Thread Cert.ReferenceFiltersIdeal.nD Cert.ReferenceFiltersIdeal.τ).loc Cert.ReferenceFiltersIdeal.main_arg7) = m ((c.tc : Thread Cert.KernelFiltersIdeal.nD Cert.KernelFiltersIdeal.τ).loc Cert.KernelFiltersIdeal.main_arg7)) →
    ∃ (v0 : (c : Dev Cert.KernelFiltersIdeal.nD) → Buf (Elt Ideal) ((c.tc : Thread Cert.KernelFiltersIdeal.nD Cert.KernelFiltersIdeal.τ).loc Cert.KernelFiltersIdeal.main_v27)),
      θ_run (Cert.KernelFiltersIdeal.defs (F := Ideal)) (onTc (τ := Cert.KernelFiltersIdeal.τ) (Cert.KernelFiltersIdeal.main (F := Ideal))) ⟨m, fun _ => 0, g⟩ (fun r => ∀ c : Dev Cert.KernelFiltersIdeal.nD,
          r.2.mem ((c.tc : Thread Cert.KernelFiltersIdeal.nD Cert.KernelFiltersIdeal.τ).loc Cert.KernelFiltersIdeal.main_v27) = v0 c
          ∧ r.2.mem ((c.tc : Thread Cert.KernelFiltersIdeal.nD Cert.KernelFiltersIdeal.τ).loc Cert.KernelFiltersIdeal.main_arg0) = m ((c.tc : Thread Cert.KernelFiltersIdeal.nD Cert.KernelFiltersIdeal.τ).loc Cert.KernelFiltersIdeal.main_arg0)
          ∧ r.2.mem ((c.tc : Thread Cert.KernelFiltersIdeal.nD Cert.KernelFiltersIdeal.τ).loc Cert.KernelFiltersIdeal.main_arg1) = m ((c.tc : Thread Cert.KernelFiltersIdeal.nD Cert.KernelFiltersIdeal.τ).loc Cert.KernelFiltersIdeal.main_arg1)
          ∧ r.2.mem ((c.tc : Thread Cert.KernelFiltersIdeal.nD Cert.KernelFiltersIdeal.τ).loc Cert.KernelFiltersIdeal.main_arg2) = m ((c.tc : Thread Cert.KernelFiltersIdeal.nD Cert.KernelFiltersIdeal.τ).loc Cert.KernelFiltersIdeal.main_arg2)
          ∧ r.2.mem ((c.tc : Thread Cert.KernelFiltersIdeal.nD Cert.KernelFiltersIdeal.τ).loc Cert.KernelFiltersIdeal.main_arg3) = m ((c.tc : Thread Cert.KernelFiltersIdeal.nD Cert.KernelFiltersIdeal.τ).loc Cert.KernelFiltersIdeal.main_arg3)
          ∧ r.2.mem ((c.tc : Thread Cert.KernelFiltersIdeal.nD Cert.KernelFiltersIdeal.τ).loc Cert.KernelFiltersIdeal.main_arg4) = m ((c.tc : Thread Cert.KernelFiltersIdeal.nD Cert.KernelFiltersIdeal.τ).loc Cert.KernelFiltersIdeal.main_arg4)
          ∧ r.2.mem ((c.tc : Thread Cert.KernelFiltersIdeal.nD Cert.KernelFiltersIdeal.τ).loc Cert.KernelFiltersIdeal.main_arg5) = m ((c.tc : Thread Cert.KernelFiltersIdeal.nD Cert.KernelFiltersIdeal.τ).loc Cert.KernelFiltersIdeal.main_arg5)
          ∧ r.2.mem ((c.tc : Thread Cert.KernelFiltersIdeal.nD Cert.KernelFiltersIdeal.τ).loc Cert.KernelFiltersIdeal.main_arg6) = m ((c.tc : Thread Cert.KernelFiltersIdeal.nD Cert.KernelFiltersIdeal.τ).loc Cert.KernelFiltersIdeal.main_arg6)
          ∧ r.2.mem ((c.tc : Thread Cert.KernelFiltersIdeal.nD Cert.KernelFiltersIdeal.τ).loc Cert.KernelFiltersIdeal.main_arg7) = m ((c.tc : Thread Cert.KernelFiltersIdeal.nD Cert.KernelFiltersIdeal.τ).loc Cert.KernelFiltersIdeal.main_arg7))
      ∧ θ_run (Cert.ReferenceFiltersIdeal.defs (F := Ideal)) (onTc (τ := Cert.ReferenceFiltersIdeal.τ) (Cert.ReferenceFiltersIdeal.main (F := Ideal))) ⟨m', fun _ => 0, g'⟩ (fun r => ∀ c : Dev Cert.ReferenceFiltersIdeal.nD,
          r.2.mem ((c.tc : Thread Cert.ReferenceFiltersIdeal.nD Cert.ReferenceFiltersIdeal.τ).loc Cert.ReferenceFiltersIdeal.main_v48) = v0 c
          ∧ r.2.mem ((c.tc : Thread Cert.ReferenceFiltersIdeal.nD Cert.ReferenceFiltersIdeal.τ).loc Cert.ReferenceFiltersIdeal.main_arg0) = m' ((c.tc : Thread Cert.ReferenceFiltersIdeal.nD Cert.ReferenceFiltersIdeal.τ).loc Cert.ReferenceFiltersIdeal.main_arg0)
          ∧ r.2.mem ((c.tc : Thread Cert.ReferenceFiltersIdeal.nD Cert.ReferenceFiltersIdeal.τ).loc Cert.ReferenceFiltersIdeal.main_arg1) = m' ((c.tc : Thread Cert.ReferenceFiltersIdeal.nD Cert.ReferenceFiltersIdeal.τ).loc Cert.ReferenceFiltersIdeal.main_arg1)
          ∧ r.2.mem ((c.tc : Thread Cert.ReferenceFiltersIdeal.nD Cert.ReferenceFiltersIdeal.τ).loc Cert.ReferenceFiltersIdeal.main_arg2) = m' ((c.tc : Thread Cert.ReferenceFiltersIdeal.nD Cert.ReferenceFiltersIdeal.τ).loc Cert.ReferenceFiltersIdeal.main_arg2)
          ∧ r.2.mem ((c.tc : Thread Cert.ReferenceFiltersIdeal.nD Cert.ReferenceFiltersIdeal.τ).loc Cert.ReferenceFiltersIdeal.main_arg3) = m' ((c.tc : Thread Cert.ReferenceFiltersIdeal.nD Cert.ReferenceFiltersIdeal.τ).loc Cert.ReferenceFiltersIdeal.main_arg3)
          ∧ r.2.mem ((c.tc : Thread Cert.ReferenceFiltersIdeal.nD Cert.ReferenceFiltersIdeal.τ).loc Cert.ReferenceFiltersIdeal.main_arg4) = m' ((c.tc : Thread Cert.ReferenceFiltersIdeal.nD Cert.ReferenceFiltersIdeal.τ).loc Cert.ReferenceFiltersIdeal.main_arg4)
          ∧ r.2.mem ((c.tc : Thread Cert.ReferenceFiltersIdeal.nD Cert.ReferenceFiltersIdeal.τ).loc Cert.ReferenceFiltersIdeal.main_arg5) = m' ((c.tc : Thread Cert.ReferenceFiltersIdeal.nD Cert.ReferenceFiltersIdeal.τ).loc Cert.ReferenceFiltersIdeal.main_arg5)
          ∧ r.2.mem ((c.tc : Thread Cert.ReferenceFiltersIdeal.nD Cert.ReferenceFiltersIdeal.τ).loc Cert.ReferenceFiltersIdeal.main_arg6) = m' ((c.tc : Thread Cert.ReferenceFiltersIdeal.nD Cert.ReferenceFiltersIdeal.τ).loc Cert.ReferenceFiltersIdeal.main_arg6)
          ∧ r.2.mem ((c.tc : Thread Cert.ReferenceFiltersIdeal.nD Cert.ReferenceFiltersIdeal.τ).loc Cert.ReferenceFiltersIdeal.main_arg7) = m' ((c.tc : Thread Cert.ReferenceFiltersIdeal.nD Cert.ReferenceFiltersIdeal.τ).loc Cert.ReferenceFiltersIdeal.main_arg7))

def Claim : Prop :=
  ∃ (hKernel : Cert.Kernel.Facts) (hKernelIdeal : Cert.KernelIdeal.Facts) (hReferenceIdeal : Cert.ReferenceIdeal.Facts) (hKernelLn0 : Cert.KernelLn0.Facts) (hKernelLn0Ideal : Cert.KernelLn0Ideal.Facts) (hReferenceLn0Ideal : Cert.ReferenceLn0Ideal.Facts) (hKernelInProj : Cert.KernelInProj.Facts) (hKernelInProjIdeal : Cert.KernelInProjIdeal.Facts) (hReferenceInProjIdeal : Cert.ReferenceInProjIdeal.Facts) (hKernelMix : Cert.KernelMix.Facts) (hKernelMixIdeal : Cert.KernelMixIdeal.Facts) (hReferenceMixIdeal : Cert.ReferenceMixIdeal.Facts) (hKernelResLn : Cert.KernelResLn.Facts) (hKernelResLnIdeal : Cert.KernelResLnIdeal.Facts) (hReferenceResLnIdeal : Cert.ReferenceResLnIdeal.Facts) (hKernelFilters : Cert.KernelFilters.Facts) (hKernelFiltersIdeal : Cert.KernelFiltersIdeal.Facts) (hReferenceFiltersIdeal : Cert.ReferenceFiltersIdeal.Facts),
    quiescent_Kernel (hKernel := hKernel)
    ∧ quiescent_KernelIdeal (hKernelIdeal := hKernelIdeal)
    ∧ quiescent_ReferenceIdeal (hReferenceIdeal := hReferenceIdeal)
    ∧ quiescent_KernelLn0 (hKernelLn0 := hKernelLn0)
    ∧ quiescent_KernelLn0Ideal (hKernelLn0Ideal := hKernelLn0Ideal)
    ∧ quiescent_ReferenceLn0Ideal (hReferenceLn0Ideal := hReferenceLn0Ideal)
    ∧ quiescent_KernelInProj (hKernelInProj := hKernelInProj)
    ∧ quiescent_KernelInProjIdeal (hKernelInProjIdeal := hKernelInProjIdeal)
    ∧ quiescent_ReferenceInProjIdeal (hReferenceInProjIdeal := hReferenceInProjIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelResLn (hKernelResLn := hKernelResLn)
    ∧ quiescent_KernelResLnIdeal (hKernelResLnIdeal := hKernelResLnIdeal)
    ∧ quiescent_ReferenceResLnIdeal (hReferenceResLnIdeal := hReferenceResLnIdeal)
    ∧ quiescent_KernelFilters (hKernelFilters := hKernelFilters)
    ∧ quiescent_KernelFiltersIdeal (hKernelFiltersIdeal := hKernelFiltersIdeal)
    ∧ quiescent_ReferenceFiltersIdeal (hReferenceFiltersIdeal := hReferenceFiltersIdeal)
    ∧ preserves_Kernel_KernelIdeal
    ∧ algebraic_KernelIdeal_ReferenceIdeal (hKernelIdeal := hKernelIdeal) (hReferenceIdeal := hReferenceIdeal)
    ∧ preserves_KernelLn0_KernelLn0Ideal
    ∧ algebraic_KernelLn0Ideal_ReferenceLn0Ideal (hKernelLn0Ideal := hKernelLn0Ideal) (hReferenceLn0Ideal := hReferenceLn0Ideal)
    ∧ preserves_KernelInProj_KernelInProjIdeal
    ∧ algebraic_KernelInProjIdeal_ReferenceInProjIdeal (hKernelInProjIdeal := hKernelInProjIdeal) (hReferenceInProjIdeal := hReferenceInProjIdeal)
    ∧ preserves_KernelMix_KernelMixIdeal
    ∧ algebraic_KernelMixIdeal_ReferenceMixIdeal (hKernelMixIdeal := hKernelMixIdeal) (hReferenceMixIdeal := hReferenceMixIdeal)
    ∧ preserves_KernelResLn_KernelResLnIdeal
    ∧ algebraic_KernelResLnIdeal_ReferenceResLnIdeal (hKernelResLnIdeal := hKernelResLnIdeal) (hReferenceResLnIdeal := hReferenceResLnIdeal)
    ∧ preserves_KernelFilters_KernelFiltersIdeal
    ∧ algebraic_KernelFiltersIdeal_ReferenceFiltersIdeal (hKernelFiltersIdeal := hKernelFiltersIdeal) (hReferenceFiltersIdeal := hReferenceFiltersIdeal)
-- ==== Kernel.lean ====
abbrev S8192x4608 : Shape := ⟨2, ![8192, 4608]⟩
abbrev S32x8 : Shape := ⟨2, ![32, 8]⟩
abbrev S1x8 : Shape := ⟨2, ![1, 8]⟩
abbrev S128 : Shape := ⟨1, ![128]⟩
abbrev S384 : Shape := ⟨1, ![384]⟩
abbrev S1x384 : Shape := ⟨2, ![1, 384]⟩
abbrev S_ : Shape := ⟨0, ![]⟩
abbrev S128x1 : Shape := ⟨2, ![128, 1]⟩
abbrev S128x384 : Shape := ⟨2, ![128, 384]⟩
abbrev S128x384x1 : Shape := ⟨3, ![128, 384, 1]⟩
abbrev S32 : Shape := ⟨1, ![32]⟩
abbrev S1x1x32 : Shape := ⟨3, ![1, 1, 32]⟩
abbrev S128x384x32 : Shape := ⟨3, ![128, 384, 32]⟩
abbrev S8x128x384 : Shape := ⟨3, ![8, 128, 384]⟩
abbrev S8 : Shape := ⟨1, ![8]⟩
abbrev S8192x1024 : Shape := ⟨2, ![8192, 1024]⟩
abbrev S128x1024 : Shape := ⟨2, ![128, 1024]⟩
abbrev S128x256 : Shape := ⟨2, ![128, 256]⟩
abbrev S512x384 : Shape := ⟨2, ![512, 384]⟩
abbrev S512x1 : Shape := ⟨2, ![512, 1]⟩
abbrev S384x256 : Shape := ⟨2, ![384, 256]⟩
abbrev S384x128 : Shape := ⟨2, ![384, 128]⟩
abbrev S128x128 : Shape := ⟨2, ![128, 128]⟩
abbrev S512x128 : Shape := ⟨2, ![512, 128]⟩
abbrev S4x128x384 : Shape := ⟨3, ![4, 128, 384]⟩
abbrev S1 : Shape := ⟨1, ![1]⟩
abbrev S512 : Shape := ⟨1, ![512]⟩

abbrev nBuf : Space → Nat
  | .hbm => 57
  | .vmem => 17
  | .smem => 1
  | _ => 0

abbrev bufTy : (tb : Table) → Fin (tcTables nBuf tb) → BufTy
  | .hbm, ⟨0, _⟩ => ⟨S8192x4608, .f32⟩
  | .hbm, ⟨1, _⟩ => ⟨S32x8, .f32⟩
  | .hbm, ⟨2, _⟩ => ⟨S1x8, .f32⟩
  | .hbm, ⟨3, _⟩ => ⟨S128, .i32⟩
  | .hbm, ⟨4, _⟩ => ⟨S384, .i32⟩
  | .hbm, ⟨5, _⟩ => ⟨S1x384, .i32⟩
  | .hbm, ⟨6, _⟩ => ⟨S_, .i32⟩
  | .hbm, ⟨7, _⟩ => ⟨S1x384, .i32⟩
  | .hbm, ⟨8, _⟩ => ⟨S1x384, .i32⟩
  | .hbm, ⟨9, _⟩ => ⟨S128x1, .i32⟩
  | .hbm, ⟨10, _⟩ => ⟨S128x384, .i32⟩
  | .hbm, ⟨11, _⟩ => ⟨S128x384, .i32⟩
  | .hbm, ⟨12, _⟩ => ⟨S128x384, .i32⟩
  | .hbm, ⟨13, _⟩ => ⟨S_, .i32⟩
  | .hbm, ⟨14, _⟩ => ⟨S128x384, .i32⟩
  | .hbm, ⟨15, _⟩ => ⟨S128x384, .i1⟩
  | .hbm, ⟨16, _⟩ => ⟨S128x384, .i32⟩
  | .hbm, ⟨17, _⟩ => ⟨S_, .i32⟩
  | .hbm, ⟨18, _⟩ => ⟨S128x384, .i32⟩
  | .hbm, ⟨19, _⟩ => ⟨S128x384, .i32⟩
  | .hbm, ⟨20, _⟩ => ⟨S128x384, .i32⟩
  | .hbm, ⟨21, _⟩ => ⟨S_, .i32⟩
  | .hbm, ⟨22, _⟩ => ⟨S128x384, .i32⟩
  | .hbm, ⟨23, _⟩ => ⟨S128x384, .i32⟩
  | .hbm, ⟨24, _⟩ => ⟨S128x384, .f32⟩
  | .hbm, ⟨25, _⟩ => ⟨S_, .f32⟩
  | .hbm, ⟨26, _⟩ => ⟨S128x384, .f32⟩
  | .hbm, ⟨27, _⟩ => ⟨S128x384, .f32⟩
  | .hbm, ⟨28, _⟩ => ⟨S128x384, .f32⟩
  | .hbm, ⟨29, _⟩ => ⟨S_, .f32⟩
  | .hbm, ⟨30, _⟩ => ⟨S128x384, .f32⟩
  | .hbm, ⟨31, _⟩ => ⟨S128x384, .f32⟩
  | .hbm, ⟨32, _⟩ => ⟨S_, .f32⟩
  | .hbm, ⟨33, _⟩ => ⟨S128x384, .f32⟩
  | .hbm, ⟨34, _⟩ => ⟨S128x384, .f32⟩
  | .hbm, ⟨35, _⟩ => ⟨S128x384, .i32⟩
  | .hbm, ⟨36, _⟩ => ⟨S_, .i32⟩
  | .hbm, ⟨37, _⟩ => ⟨S128x384, .i32⟩
  | .hbm, ⟨38, _⟩ => ⟨S128x384, .i32⟩
  | .hbm, ⟨39, _⟩ => ⟨S_, .i32⟩
  | .hbm, ⟨40, _⟩ => ⟨S128x384, .i32⟩
  | .hbm, ⟨41, _⟩ => ⟨S128x384, .i32⟩
  | .hbm, ⟨42, _⟩ => ⟨S_, .i32⟩
  | .hbm, ⟨43, _⟩ => ⟨S128x384, .i32⟩
  | .hbm, ⟨44, _⟩ => ⟨S128x384, .i1⟩
  | .hbm, ⟨45, _⟩ => ⟨S128x384, .i32⟩
  | .hbm, ⟨46, _⟩ => ⟨S128x384, .i32⟩
  | .hbm, ⟨47, _⟩ => ⟨S128x384x1, .i32⟩
  | .hbm, ⟨48, _⟩ => ⟨S32, .i32⟩
  | .hbm, ⟨49, _⟩ => ⟨S1x1x32, .i32⟩
  | .hbm, ⟨50, _⟩ => ⟨S128x384x32, .i32⟩
  | .hbm, ⟨51, _⟩ => ⟨S128x384x32, .i32⟩
  | .hbm, ⟨52, _⟩ => ⟨S128x384x32, .i1⟩
  | .hbm, ⟨53, _⟩ => ⟨S128x384x32, .f32⟩
  | .hbm, ⟨54, _⟩ => ⟨S8x128x384, .f32⟩
  | .hbm, ⟨55, _⟩ => ⟨S8, .f32⟩
  | .hbm, ⟨56, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S8x128x384, .f32⟩
  | .local _ .vmem, ⟨15, _⟩ => ⟨S128x1024, .f32⟩
  | .local _ .vmem, ⟨16, _⟩ => ⟨S128x1024, .f32⟩
  | .local _ .smem, ⟨0, _⟩ => ⟨S8, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c0_i32_4 : BitVec 32 := 0#32
  let c1_i32_5 : BitVec 32 := 1#32
  let v11 : BitVec 32 := Scalar.select v10 c0_i32_4 c1_i32_5
  let v12 : BitVec 32 := Scalar.subi arg0 v11
  let c4_i32 : BitVec 32 := 4#32
  let c0_i32_6 : BitVec 32 := 0#32
  ![v12.toNat, c4_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c31_i32 : BitVec 32 := 31#32
  let v10 : BitVec 1 := Scalar.cmpi .eq v9 c31_i32
  let c0_i32_3 : BitVec 32 := 0#32
  let c1_i32_4 : BitVec 32 := 1#32
  let v11 : BitVec 32 := Scalar.select v10 c0_i32_3 c1_i32_4
  let v12 : BitVec 32 := Scalar.addi arg0 v11
  let c4_i32 : BitVec 32 := 4#32
  let c0_i32_5 : BitVec 32 := 0#32
  ![v12.toNat, c4_i32.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c0_i32_4 : BitVec 32 := 0#32
  let c1_i32_5 : BitVec 32 := 1#32
  let v11 : BitVec 32 := Scalar.select v10 c0_i32_4 c1_i32_5
  let v12 : BitVec 32 := Scalar.subi arg0 v11
  let c5_i32 : BitVec 32 := 5#32
  let c0_i32_6 : BitVec 32 := 0#32
  ![v12.toNat, c5_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c31_i32 : BitVec 32 := 31#32
  let v10 : BitVec 1 := Scalar.cmpi .eq v9 c31_i32
  let c0_i32_3 : BitVec 32 := 0#32
  let c1_i32_4 : BitVec 32 := 1#32
  let v11 : BitVec 32 := Scalar.select v10 c0_i32_3 c1_i32_4
  let v12 : BitVec 32 := Scalar.addi arg0 v11
  let c5_i32 : BitVec 32 := 5#32
  let c0_i32_5 : BitVec 32 := 0#32
  ![v12.toNat, c5_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S8192x4608 : Shape := ⟨2, ![8192, 4608]⟩
abbrev S32x8 : Shape := ⟨2, ![32, 8]⟩
abbrev S1x8 : Shape := ⟨2, ![1, 8]⟩
abbrev S2x4096x4608 : Shape := ⟨3, ![2, 4096, 4608]⟩
abbrev S2x4096x1024 : Shape := ⟨3, ![2, 4096, 1024]⟩
abbrev S2x4096x8x128 : Shape := ⟨4, ![2, 4096, 8, 128]⟩
abbrev S2x4096x256 : Shape := ⟨3, ![2, 4096, 256]⟩
abbrev S2x4096x2x128 : Shape := ⟨4, ![2, 4096, 2, 128]⟩
abbrev S8 : Shape := ⟨1, ![8]⟩
abbrev S2x32x128x2x4x128 : Shape := ⟨6, ![2, 32, 128, 2, 4, 128]⟩
abbrev S_ : Shape := ⟨0, ![]⟩
abbrev S2x4352x2x128 : Shape := ⟨4, ![2, 4352, 2, 128]⟩
abbrev S2x34x128x2x128 : Shape := ⟨5, ![2, 34, 128, 2, 128]⟩
abbrev S2x32x128x2x128 : Shape := ⟨5, ![2, 32, 128, 2, 128]⟩
abbrev S2x32x384x2x128 : Shape := ⟨5, ![2, 32, 384, 2, 128]⟩
abbrev S2x32x2x384x128x4 : Shape := ⟨6, ![2, 32, 2, 384, 128, 4]⟩
abbrev S2x32x2x4x128x384 : Shape := ⟨6, ![2, 32, 2, 4, 128, 384]⟩
abbrev S128 : Shape := ⟨1, ![128]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S2x4x128x384 : Shape := ⟨4, ![2, 4, 128, 384]⟩
abbrev S32 : Shape := ⟨1, ![32]⟩
abbrev S32x1x1 : Shape := ⟨3, ![32, 1, 1]⟩
abbrev S1x1x384 : Shape := ⟨3, ![1, 1, 384]⟩
abbrev S32x1x384 : Shape := ⟨3, ![32, 1, 384]⟩
abbrev S1x128x384 : Shape := ⟨3, ![1, 128, 384]⟩
abbrev S32x128x384 : Shape := ⟨3, ![32, 128, 384]⟩
abbrev S1x32x1x1x128x384 : Shape := ⟨6, ![1, 32, 1, 1, 128, 384]⟩
abbrev S1x1x2x4x128x384 : Shape := ⟨6, ![1, 1, 2, 4, 128, 384]⟩
abbrev S2x4 : Shape := ⟨2, ![2, 4]⟩
abbrev S1x1x2x4x1x1 : Shape := ⟨6, ![1, 1, 2, 4, 1, 1]⟩
abbrev S2x32x2x4x128 : Shape := ⟨5, ![2, 32, 2, 4, 128]⟩
abbrev S2x32x2x4x128x1 : Shape := ⟨6, ![2, 32, 2, 4, 128, 1]⟩
abbrev S2x32x2x128x4x128 : Shape := ⟨6, ![2, 32, 2, 128, 4, 128]⟩
abbrev S8192x1024 : Shape := ⟨2, ![8192, 1024]⟩

abbrev nBuf : Space → Nat
  | .hbm => 149
  | .vmem => 0
  | .smem => 0
  | _ => 0

abbrev hbmTy0_0 (i : Nat) : BufTy := match i % 128 with
  | 0 => ⟨S8192x4608, .f32⟩
  | 1 => ⟨S32x8, .f32⟩
  | 2 => ⟨S1x8, .f32⟩
  | 3 => ⟨S2x4096x4608, .f32⟩
  | 4 => ⟨S2x4096x1024, .f32⟩
  | 5 => ⟨S2x4096x8x128, .f32⟩
  | 6 => ⟨S2x4096x256, .f32⟩
  | 7 => ⟨S2x4096x2x128, .f32⟩
  | 8 => ⟨S2x4096x256, .f32⟩
  | 9 => ⟨S2x4096x2x128, .f32⟩
  | 10 => ⟨S8, .f32⟩
  | 11 => ⟨S2x32x128x2x4x128, .f32⟩
  | 12 => ⟨S_, .i32⟩
  | 13 => ⟨S_, .f32⟩
  | 14 => ⟨S2x4352x2x128, .f32⟩
  | 15 => ⟨S2x34x128x2x128, .f32⟩
  | 16 => ⟨S_, .i32⟩
  | 17 => ⟨S_, .f32⟩
  | 18 => ⟨S2x4352x2x128, .f32⟩
  | 19 => ⟨S2x34x128x2x128, .f32⟩
  | 20 => ⟨S2x32x128x2x128, .f32⟩
  | 21 => ⟨S2x32x128x2x128, .f32⟩
  | 22 => ⟨S2x32x128x2x128, .f32⟩
  | 23 => ⟨S2x32x384x2x128, .f32⟩
  | 24 => ⟨S2x32x128x2x128, .f32⟩
  | 25 => ⟨S2x32x128x2x128, .f32⟩
  | 26 => ⟨S2x32x128x2x128, .f32⟩
  | 27 => ⟨S2x32x384x2x128, .f32⟩
  | 28 => ⟨S2x32x2x384x128x4, .f32⟩
  | 29 => ⟨S2x32x2x4x128x384, .f32⟩
  | 30 => ⟨S_, .f32⟩
  | 31 => ⟨S_, .f32⟩
  | 32 => ⟨S2x32x2x4x128x384, .f32⟩
  | 33 => ⟨S2x32x2x4x128x384, .f32⟩
  | 34 => ⟨S128, .i32⟩
  | 35 => ⟨S384, .i32⟩
  | 36 => ⟨S1x384, .i32⟩
  | 37 => ⟨S_, .i32⟩
  | 38 => ⟨S1x384, .i32⟩
  | 39 => ⟨S1x384, .i32⟩
  | 40 => ⟨S128x1, .i32⟩
  | 41 => ⟨S128x384, .i32⟩
  | 42 => ⟨S128x384, .i32⟩
  | 43 => ⟨S128x384, .i32⟩
  | 44 => ⟨S_, .i32⟩
  | 45 => ⟨S128x384, .i32⟩
  | 46 => ⟨S128x384, .i1⟩
  | 47 => ⟨S128x384, .i32⟩
  | 48 => ⟨S_, .i32⟩
  | 49 => ⟨S128x384, .i32⟩
  | 50 => ⟨S128x384, .i32⟩
  | 51 => ⟨S128x384, .i32⟩
  | 52 => ⟨S_, .i32⟩
  | 53 => ⟨S128x384, .i32⟩
  | 54 => ⟨S128x384, .i32⟩
  | 55 => ⟨S128x384, .f32⟩
  | 56 => ⟨S_, .f32⟩
  | 57 => ⟨S128x384, .f32⟩
  | 58 => ⟨S128x384, .f32⟩
  | 59 => ⟨S128x384, .f32⟩
  | 60 => ⟨S_, .f32⟩
  | 61 => ⟨S128x384, .f32⟩
  | 62 => ⟨S128x384, .f32⟩
  | 63 => ⟨S_, .f32⟩
  | 64 => ⟨S128x384, .f32⟩
  | 65 => ⟨S128x384, .f32⟩
  | 66 => ⟨S128x384, .i32⟩
  | 67 => ⟨S_, .i32⟩
  | 68 => ⟨S128x384, .i32⟩
  | 69 => ⟨S128x384, .i32⟩
  | 70 => ⟨S_, .i32⟩
  | 71 => ⟨S128x384, .i32⟩
  | 72 => ⟨S128x384, .i32⟩
  | 73 => ⟨S_, .i32⟩
  | 74 => ⟨S128x384, .i32⟩
  | 75 => ⟨S128x384, .i1⟩
  | 76 => ⟨S128x384, .i32⟩
  | 77 => ⟨S128x384, .i32⟩
  | 78 => ⟨S_, .i32⟩
  | 79 => ⟨S128x384, .i32⟩
  | 80 => ⟨S128x384, .i1⟩
  | 81 => ⟨S_, .i32⟩
  | 82 => ⟨S128x384, .i32⟩
  | 83 => ⟨S128x384, .i32⟩
  | 84 => ⟨S128x384, .i32⟩
  | 85 => ⟨S128x384x1, .i32⟩
  | 86 => ⟨S128x384x8, .f32⟩
  | 87 => ⟨S8x128x384, .f32⟩
  | 88 => ⟨S2x4x128x384, .f32⟩
  | 89 => ⟨S32, .i32⟩
  | 90 => ⟨S32x1x1, .i32⟩
  | 91 => ⟨S_, .i32⟩
  | 92 => ⟨S32x1x1, .i32⟩
  | 93 => ⟨S32x1x1, .i32⟩
  | 94 => ⟨S1x1x384, .i32⟩
  | 95 => ⟨S32x1x384, .i32⟩
  | 96 => ⟨S32x1x384, .i32⟩
  | 97 => ⟨S32x1x384, .i32⟩
  | 98 => ⟨S_, .i32⟩
  | 99 => ⟨S32x1x384, .i32⟩
  | 100 => ⟨S32x1x384, .i32⟩
  | 101 => ⟨S128x384, .i32⟩
  | 102 => ⟨S_, .i32⟩
  | 103 => ⟨S128x384, .i32⟩
  | 104 => ⟨S128x384, .i1⟩
  | 105 => ⟨S1x128x384, .i1⟩
  | 106 => ⟨S_, .i32⟩
  | 107 => ⟨S32x1x384, .i32⟩
  | 108 => ⟨S32x1x384, .i1⟩
  | 109 => ⟨S32x128x384, .i1⟩
  | 110 => ⟨S32x128x384, .i1⟩
  | 111 => ⟨S32x128x384, .i1⟩
  | 112 => ⟨S_, .i32⟩
  | 113 => ⟨S32x1x384, .i32⟩
  | 114 => ⟨S32x1x384, .i1⟩
  | 115 => ⟨S32x128x384, .i1⟩
  | 116 => ⟨S32x128x384, .i1⟩
  | 117 => ⟨S1x32x1x1x128x384, .i1⟩
  | 118 => ⟨S1x1x2x4x128x384, .f32⟩
  | 119 => ⟨S2x32x2x4x128x384, .f32⟩
  | 120 => ⟨S2x32x2x4x128x384, .f32⟩
  | 121 => ⟨S_, .f32⟩
  | 122 => ⟨S_, .f32⟩
  | 123 => ⟨S2x32x2x4x128x384, .i1⟩
  | 124 => ⟨S2x32x2x4x128x384, .f32⟩
  | 125 => ⟨S2x32x2x4x128x384, .f32⟩
  | 126 => ⟨S2x4, .f32⟩
  | 127 => ⟨S1x1x2x4x1x1, .f32⟩
  | _ => ⟨S8192x4608, .f32⟩

abbrev hbmTy0_1 (i : Nat) : BufTy := match i % 128 with
  | 0 => ⟨S_, .f32⟩
  | 1 => ⟨S2x32x2x4x128, .f32⟩
  | 2 => ⟨S2x32x2x4x128x1, .f32⟩
  | 3 => ⟨S2x32x2x4x128x1, .f32⟩
  | 4 => ⟨S2x32x2x4x128x1, .f32⟩
  | 5 => ⟨S2x32x2x4x128x384, .f32⟩
  | 6 => ⟨S2x32x2x4x128x384, .f32⟩
  | 7 => ⟨S2x32x2x4x128x384, .f32⟩
  | 8 => ⟨S_, .f32⟩
  | 9 => ⟨S2x32x2x4x128, .f32⟩
  | 10 => ⟨S2x32x2x4x128x1, .f32⟩
  | 11 => ⟨S2x32x2x4x128x1, .f32⟩
  | 12 => ⟨S2x32x2x4x128x1, .f32⟩
  | 13 => ⟨S2x32x2x4x128x1, .f32⟩
  | 14 => ⟨S2x32x2x4x128x1, .f32⟩
  | 15 => ⟨S2x32x2x4x128x384, .f32⟩
  | 16 => ⟨S2x32x2x4x128x384, .f32⟩
  | 17 => ⟨S2x32x2x128x4x128, .f32⟩
  | 18 => ⟨S2x32x128x2x4x128, .f32⟩
  | 19 => ⟨S2x4096x1024, .f32⟩
  | 20 => ⟨S8192x1024, .f32⟩
  | _ => ⟨S8192x4608, .f32⟩

abbrev hbmTy (i : Nat) : BufTy := match i / 128 with
  | 0 => hbmTy0_0 i
  | 1 => hbmTy0_1 i
  | _ => ⟨S8192x4608, .f32⟩

abbrev bufTy : (tb : Table) → Fin (tcTables nBuf tb) → BufTy
  | .hbm, ⟨i, _⟩ => hbmTy i
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_8 : Ref sig .tc := ⟨.hbm, 67, rfl⟩
abbrev main_v52 : Ref sig .tc := ⟨.hbm, 68, rfl⟩
abbrev main_v53 : Ref sig .tc := ⟨.hbm, 69, rfl⟩
abbrev main_c_9 : Ref sig .tc := ⟨.hbm, 70, rfl⟩
abbrev main_v54 : Ref sig .tc := ⟨.hbm, 71, rfl⟩
abbrev main_v55 : Ref sig .tc := ⟨.hbm, 72, rfl⟩
abbrev main_c_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_11 : Ref sig .tc := ⟨.hbm, 78, rfl⟩
abbrev main_v60 : Ref sig .tc := ⟨.hbm, 79, rfl⟩
abbrev main_v61 : Ref sig .tc := ⟨.hbm, 80, rfl⟩
abbrev main_c_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_13 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_14 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_15 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_16 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_c_17 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_18 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_19 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_20 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩

abbrev nD : Nat := 1
abbrev τ : Topo := Topo.v7x

variable {F : FTy → Type} [FloatOps F]
-- ==== KernelLn0.lean ====
abbrev S2x4096x2048 : Shape := ⟨3, ![2, 4096, 2048]⟩
abbrev S2048 : Shape := ⟨1, ![2048]⟩
abbrev S8192x2048 : Shape := ⟨2, ![8192, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceLn0Ideal.lean ====
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x2048, .f32⟩
  | .hbm, ⟨25, _⟩ => ⟨S2x4096x2048, .f32⟩
  | .hbm, ⟨26, _⟩ => ⟨S1x1x2048, .f32⟩
  | .hbm, ⟨27, _⟩ => ⟨S2x4096x2048, .f32⟩
  | .hbm, ⟨28, _⟩ => ⟨S2x4096x2048, .f32⟩
  | .hbm, ⟨29, _⟩ => ⟨S1x1x2048, .f32⟩
  | .hbm, ⟨30, _⟩ => ⟨S2x4096x2048, .f32⟩
  | .hbm, ⟨31, _⟩ => ⟨S2x4096x2048, .f32⟩
  | .hbm, ⟨32, _⟩ => ⟨S8192x2048, .f32⟩
  | .hbm, ⟨33, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== KernelInProj.lean ====
abbrev S8192x2048 : Shape := ⟨2, ![8192, 2048]⟩
abbrev S1x2048x4608 : Shape := ⟨3, ![1, 2048, 4608]⟩
abbrev S2048x4608 : Shape := ⟨2, ![2048, 4608]⟩
abbrev S8192x4608 : Shape := ⟨2, ![8192, 4608]⟩
abbrev S1024x2048 : Shape := ⟨2, ![1024, 2048]⟩
abbrev S2048x2304 : Shape := ⟨2, ![2048, 2304]⟩
abbrev S1024x2304 : Shape := ⟨2, ![1024, 2304]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x4608, .f32⟩
  | .hbm, ⟨2, _⟩ => ⟨S2048x4608, .f32⟩
  | .hbm, ⟨3, _⟩ => ⟨S2048x4608, .bf16⟩
  | .hbm, ⟨4, _⟩ => ⟨S8192x4608, .f32⟩
  | .local _ .vmem, ⟨0, _⟩ => ⟨S1024x2048, .bf16⟩
  | .local _ .vmem, ⟨1, _⟩ => ⟨S1024x2048, .bf16⟩
  | .local _ .vmem, ⟨2, _⟩ => ⟨S2048x2304, .bf16⟩
  | .local _ .vmem, ⟨3, _⟩ => ⟨S2048x2304, .bf16⟩
  | .local _ .vmem, ⟨4, _⟩ => ⟨S1024x2304, .f32⟩
  | .local _ .vmem, ⟨5, _⟩ => ⟨S1024x2304, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInProjIdeal.lean ====
abbrev S8192x2048 : Shape := ⟨2, ![8192, 2048]⟩
abbrev S1x2048x4608 : Shape := ⟨3, ![1, 2048, 4608]⟩
abbrev S2048x4608 : Shape := ⟨2, ![2048, 4608]⟩
abbrev S8192x4608 : Shape := ⟨2, ![8192, 4608]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x4608, .f32⟩
  | .hbm, ⟨2, _⟩ => ⟨S8192x2048, .f32⟩
  | .hbm, ⟨3, _⟩ => ⟨S2048x4608, .f32⟩
  | .hbm, ⟨4, _⟩ => ⟨S8192x4608, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelMix.lean ====
abbrev S8192x1024 : Shape := ⟨2, ![8192, 1024]⟩
abbrev S2x4096x1024 : Shape := ⟨3, ![2, 4096, 1024]⟩
abbrev S8192x2048 : Shape := ⟨2, ![8192, 2048]⟩
abbrev S1x2048 : Shape := ⟨2, ![1, 2048]⟩
abbrev S1x2048x2048 : Shape := ⟨3, ![1, 2048, 2048]⟩
abbrev S2048 : Shape := ⟨1, ![2048]⟩
abbrev S2048x2048 : Shape := ⟨2, ![2048, 2048]⟩
abbrev S2048x8192 : Shape := ⟨2, ![2048, 8192]⟩
abbrev S512x1024 : Shape := ⟨2, ![512, 1024]⟩
abbrev S512x2048 : Shape := ⟨2, ![512, 2048]⟩
abbrev S2048x512 : Shape := ⟨2, ![2048, 512]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S1024x2048 : Shape := ⟨2, ![1024, 2048]⟩

abbrev nBuf : Space → Nat
  | .hbm => 18
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S8192x2048, .f32⟩
  | .hbm, ⟨3, _⟩ => ⟨S1x2048, .f32⟩
  | .hbm, ⟨4, _⟩ => ⟨S1x2048x2048, .f32⟩
  | .hbm, ⟨5, _⟩ => ⟨S1x2048, .f32⟩
  | .hbm, ⟨6, _⟩ => ⟨S1x2048, .f32⟩
  | .hbm, ⟨7, _⟩ => ⟨S8192x1024, .f32⟩
  | .hbm, ⟨8, _⟩ => ⟨S2048, .f32⟩
  | .hbm, ⟨9, _⟩ => ⟨S2048x2048, .f32⟩
  | .hbm, ⟨10, _⟩ => ⟨S2048x2048, .bf16⟩
  | .hbm, ⟨11, _⟩ => ⟨S2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S8192x2048, .f32⟩
  | .hbm, ⟨17, _⟩ => ⟨S2048x8192, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S2048x512, .bf16⟩
  | .local _ .vmem, ⟨13, _⟩ => ⟨S2048x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMixIdeal.lean ====
abbrev S8192x1024 : Shape := ⟨2, ![8192, 1024]⟩
abbrev S2x4096x1024 : Shape := ⟨3, ![2, 4096, 1024]⟩
abbrev S8192x2048 : Shape := ⟨2, ![8192, 2048]⟩
abbrev S1x2048 : Shape := ⟨2, ![1, 2048]⟩
abbrev S1x2048x2048 : Shape := ⟨3, ![1, 2048, 2048]⟩
abbrev S2x4096x2048 : Shape := ⟨3, ![2, 4096, 2048]⟩
abbrev S2048 : Shape := ⟨1, ![2048]⟩
abbrev S2x4096x16x128 : Shape := ⟨4, ![2, 4096, 16, 128]⟩
abbrev S_ : Shape := ⟨0, ![]⟩
abbrev S2x4096x16 : Shape := ⟨3, ![2, 4096, 16]⟩
abbrev S2x4096x16x1 : Shape := ⟨4, ![2, 4096, 16, 1]⟩
abbrev S1x1x2048 : Shape := ⟨3, ![1, 1, 2048]⟩
abbrev S2048x2048 : Shape := ⟨2, ![2048, 2048]⟩
abbrev S2x4096 : Shape := ⟨2, ![2, 4096]⟩
abbrev S2x4096x1 : Shape := ⟨3, ![2, 4096, 1]⟩
abbrev S2048x8192 : Shape := ⟨2, ![2048, 8192]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S8192x2048, .f32⟩
  | .hbm, ⟨3, _⟩ => ⟨S1x2048, .f32⟩
  | .hbm, ⟨4, _⟩ => ⟨S1x2048x2048, .f32⟩
  | .hbm, ⟨5, _⟩ => ⟨S1x2048, .f32⟩
  | .hbm, ⟨6, _⟩ => ⟨S1x2048, .f32⟩
  | .hbm, ⟨7, _⟩ => ⟨S2x4096x1024, .f32⟩
  | .hbm, ⟨8, _⟩ => ⟨S2x4096x2048, .f32⟩
  | .hbm, ⟨9, _⟩ => ⟨S2x4096x2048, .f32⟩
  | .hbm, ⟨10, _⟩ => ⟨S2048, .f32⟩
  | .hbm, ⟨11, _⟩ => ⟨S2x4096x16x128, .f32⟩
  | .hbm, ⟨12, _⟩ => ⟨S2x4096x16x128, .f32⟩
  | .hbm, ⟨13, _⟩ => ⟨S_, .f32⟩
  | .hbm, ⟨14, _⟩ => ⟨S2x4096x16, .f32⟩
  | .hbm, ⟨15, _⟩ => ⟨S2x4096x16x1, .f32⟩
  | .hbm, ⟨16, _⟩ => ⟨S_, .f32⟩
  | .hbm, ⟨17, _⟩ => ⟨S2x4096x16x1, .f32⟩
  | .hbm, ⟨18, _⟩ => ⟨S2x4096x16x1, .f32⟩
  | .hbm, ⟨19, _⟩ => ⟨S_, .f32⟩
  | .hbm, ⟨20, _⟩ => ⟨S2x4096x16x1, .f32⟩
  | .hbm, ⟨21, _⟩ => ⟨S2x4096x16x1, .f32⟩
  | .hbm, ⟨22, _⟩ => ⟨S2x4096x16x1, .f32⟩
  | .hbm, ⟨23, _⟩ => ⟨S2x4096x16x128, .f32⟩
  | .hbm, ⟨24, _⟩ => ⟨S2x4096x16x128, .f32⟩
  | .hbm, ⟨25, _⟩ => ⟨S2x4096x2048, .f32⟩
  | .hbm, ⟨26, _⟩ => ⟨S1x1x2048, .f32⟩
  | .hbm, ⟨27, _⟩ => ⟨S2x4096x2048, .f32⟩
  | .hbm, ⟨28, _⟩ => ⟨S2x4096x2048, .f32⟩
  | .hbm, ⟨29, _⟩ => ⟨S2048x2048, .f32⟩
  | .hbm, ⟨30, _⟩ => ⟨S2x4096x2048, .f32⟩
  | .hbm, ⟨31, _⟩ => ⟨S_, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S2x4096, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S2x4096x2048, .f32⟩
  | .hbm, ⟨44, _⟩ => ⟨S2x4096x2048, .f32⟩
  | .hbm, ⟨45, _⟩ => ⟨S2x4096x2048, .f32⟩
  | .hbm, ⟨46, _⟩ => ⟨S_, .f32⟩
  | .hbm, ⟨47, _⟩ => ⟨S2x4096, .f32⟩
  | .hbm, ⟨48, _⟩ => ⟨S2x4096x1, .f32⟩
  | .hbm, ⟨49, _⟩ => ⟨S_, .f32⟩
  | .hbm, ⟨50, _⟩ => ⟨S2x4096x1, .f32⟩
  | .hbm, ⟨51, _⟩ => ⟨S2x4096x1, .f32⟩
  | .hbm, ⟨52, _⟩ => ⟨S2x4096x2048, .f32⟩
  | .hbm, ⟨53, _⟩ => ⟨S2x4096x2048, .f32⟩
  | .hbm, ⟨54, _⟩ => ⟨S_, .f32⟩
  | .hbm, ⟨55, _⟩ => ⟨S2x4096x1, .f32⟩
  | .hbm, ⟨56, _⟩ => ⟨S2x4096x1, .f32⟩
  | .hbm, ⟨57, _⟩ => ⟨S2x4096x1, .f32⟩
  | .hbm, ⟨58, _⟩ => ⟨S2x4096x2048, .f32⟩
  | .hbm, ⟨59, _⟩ => ⟨S2x4096x2048, .f32⟩
  | .hbm, ⟨60, _⟩ => ⟨S1x1x2048, .f32⟩
  | .hbm, ⟨61, _⟩ => ⟨S2x4096x2048, .f32⟩
  | .hbm, ⟨62, _⟩ => ⟨S2x4096x2048, .f32⟩
  | .hbm, ⟨63, _⟩ => ⟨S1x1x2048, .f32⟩
  | .hbm, ⟨64, _⟩ => ⟨S2x4096x2048, .f32⟩
  | .hbm, ⟨65, _⟩ => ⟨S2x4096x2048, .f32⟩
  | .hbm, ⟨66, _⟩ => ⟨S8192x2048, .f32⟩
  | .hbm, ⟨67, _⟩ => ⟨S2048x8192, .f32⟩
  | .hbm, ⟨68, _⟩ => ⟨S2048x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== KernelResLn.lean ====
abbrev S8192x2048 : Shape := ⟨2, ![8192, 2048]⟩
abbrev S2048x8192 : Shape := ⟨2, ![2048, 8192]⟩
abbrev S1x2048 : Shape := ⟨2, ![1, 2048]⟩
abbrev S2048 : Shape := ⟨1, ![2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceResLnIdeal.lean ====
abbrev S8192x2048 : Shape := ⟨2, ![8192, 2048]⟩
abbrev S2048x8192 : Shape := ⟨2, ![2048, 8192]⟩
abbrev S1x2048 : Shape := ⟨2, ![1, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== KernelFilters.lean ====
abbrev S4096x33 : Shape := ⟨2, ![4096, 33]⟩
abbrev S1x33x64 : Shape := ⟨3, ![1, 33, 64]⟩
abbrev S1x64 : Shape := ⟨2, ![1, 64]⟩
abbrev S1x64x64 : Shape := ⟨3, ![1, 64, 64]⟩
abbrev S1x64x4096 : Shape := ⟨3, ![1, 64, 4096]⟩
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S_ : Shape := ⟨0, ![]⟩
abbrev S4096x64 : Shape := ⟨2, ![4096, 64]⟩
abbrev S4095x64 : Shape := ⟨2, ![4095, 64]⟩
abbrev S8192x64 : Shape := ⟨2, ![8192, 64]⟩
abbrev S1023 : Shape := ⟨1, ![1023]⟩
abbrev S1 : Shape := ⟨1, ![1]⟩
abbrev S1024 : Shape := ⟨1, ![1024]⟩
abbrev S1x1024 : Shape := ⟨2, ![1, 1024]⟩
abbrev S2x1024 : Shape := ⟨2, ![2, 1024]⟩
abbrev S2048 : Shape := ⟨1, ![2048]⟩
abbrev S1x2048 : Shape := ⟨2, ![1, 2048]⟩
abbrev S64x2x2x1024 : Shape := ⟨4, ![64, 2, 2, 1024]⟩
abbrev S2x64x2x1024 : Shape := ⟨4, ![2, 64, 2, 1024]⟩
abbrev S2x64x2048 : Shape := ⟨3, ![2, 64, 2048]⟩
abbrev S8192x2048 : Shape := ⟨2, ![8192, 2048]⟩
abbrev S512x64 : Shape := ⟨2, ![512, 64]⟩
abbrev S1x64x2048 : Shape := ⟨3, ![1, 64, 2048]⟩
abbrev S512x2048 : Shape := ⟨2, ![512, 2048]⟩
abbrev S64x2048 : Shape := ⟨2, ![64, 2048]⟩

abbrev nBuf : Space → Nat
  | .hbm => 62
  | .vmem => 13
  | .smem => 0
  | _ => 0

abbrev bufTy : (tb : Table) → Fin (tcTables nBuf tb) → BufTy
  | .hbm, ⟨0, _⟩ => ⟨S4096x33, .f32⟩
  | .hbm, ⟨1, _⟩ => ⟨S1x33x64, .f32⟩
  | .hbm, ⟨2, _⟩ => ⟨S1x64, .f32⟩
  | .hbm, ⟨3, _⟩ => ⟨S1x64, .f32⟩
  | .hbm, ⟨4, _⟩ => ⟨S1x64x64, .f32⟩
  | .hbm, ⟨5, _⟩ => ⟨S1x64, .f32⟩
  | .hbm, ⟨6, _⟩ => ⟨S1x64, .f32⟩
  | .hbm, ⟨7, _⟩ => ⟨S1x64x4096, .f32⟩
  | .hbm, ⟨8, _⟩ => ⟨S33x64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64x4096, .f32⟩
  | .hbm, ⟨15, _⟩ => ⟨S_, .i32⟩
  | .hbm, ⟨16, _⟩ => ⟨S_, .f32⟩
  | .hbm, ⟨17, _⟩ => ⟨S4096x64, .f32⟩
  | .hbm, ⟨18, _⟩ => ⟨S1x64, .f32⟩
  | .hbm, ⟨19, _⟩ => ⟨S4095x64, .f32⟩
  | .hbm, ⟨20, _⟩ => ⟨S4095x64, .f32⟩
  | .hbm, ⟨21, _⟩ => ⟨S8192x64, .f32⟩
  | .hbm, ⟨22, _⟩ => ⟨S_, .i32⟩
  | .hbm, ⟨23, _⟩ => ⟨S_, .f32⟩
  | .hbm, ⟨24, _⟩ => ⟨S64x64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1023, .f32⟩
  | .hbm, ⟨33, _⟩ => ⟨S_, .f32⟩
  | .hbm, ⟨34, _⟩ => ⟨S1023, .f32⟩
  | .hbm, ⟨35, _⟩ => ⟨S1023, .f32⟩
  | .hbm, ⟨36, _⟩ => ⟨S1, .f32⟩
  | .hbm, ⟨37, _⟩ => ⟨S_, .f32⟩
  | .hbm, ⟨38, _⟩ => ⟨S1023, .f32⟩
  | .hbm, ⟨39, _⟩ => ⟨S1023, .f32⟩
  | .hbm, ⟨40, _⟩ => ⟨S1023, .f32⟩
  | .hbm, ⟨41, _⟩ => ⟨S1023, .f32⟩
  | .hbm, ⟨42, _⟩ => ⟨S1, .f32⟩
  | .hbm, ⟨43, _⟩ => ⟨S1023, .f32⟩
  | .hbm, ⟨44, _⟩ => ⟨S1023, .f32⟩
  | .hbm, ⟨45, _⟩ => ⟨S1023, .f32⟩
  | .hbm, ⟨46, _⟩ => ⟨S1, .f32⟩
  | .hbm, ⟨47, _⟩ => ⟨S1024, .f32⟩
  | .hbm, ⟨48, _⟩ => ⟨S1024, .f32⟩
  | .hbm, ⟨49, _⟩ => ⟨S1x1024, .f32⟩
  | .hbm, ⟨50, _⟩ => ⟨S2x1024, .f32⟩
  | .hbm, ⟨51, _⟩ => ⟨S2048, .f32⟩
  | .hbm, ⟨52, _⟩ => ⟨S1x2048, .f32⟩
  | .hbm, ⟨53, _⟩ => ⟨S64x2x2x1024, .f32⟩
  | .hbm, ⟨54, _⟩ => ⟨S2x64x2x1024, .f32⟩
  | .hbm, ⟨55, _⟩ => ⟨S2x64x2048, .f32⟩
  | .hbm, ⟨56, _⟩ => ⟨S2x64x2048, .bf16⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S8192x2048, .f32⟩
  | .local _ .vmem, ⟨0, _⟩ => ⟨S512x64, .f32⟩
  | .local _ .vmem, ⟨1, _⟩ => ⟨S512x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S1x64x2048, .bf16⟩
  | .local _ .vmem, ⟨9, _⟩ => ⟨S1x64x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S4096x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_call1_v0 : Ref sig .tc := ⟨.hbm, 23, rfl⟩
abbrev main_v12 : Ref sig .tc := ⟨.hbm, 24, rfl⟩
abbrev main_cst : Ref sig .tc := ⟨.hbm, 25, rfl⟩
abbrev main_cst_1 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_cst : Ref sig .tc := ⟨.hbm, 30, rfl⟩
abbrev main_call2_v3 : Ref sig .tc := ⟨.hbm, 31, rfl⟩
abbrev main_call2_v4 : Ref sig .tc := ⟨.hbm, 32, rfl⟩
abbrev main_call2_cst_0 : Ref sig .tc := ⟨.hbm, 33, rfl⟩
abbrev main_call2_v5 : Ref sig .tc := ⟨.hbm, 34, rfl⟩
abbrev main_call2_v6 : Ref sig .tc := ⟨.hbm, 35, rfl⟩
abbrev main_call2_v7 : Ref sig .tc := ⟨.hbm, 36, rfl⟩
abbrev main_call2_cst_1 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_call2_v15 : Ref sig .tc := ⟨.hbm, 45, rfl⟩
abbrev main_call2_v16 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFiltersIdeal.lean ====
abbrev S4096x33 : Shape := ⟨2, ![4096, 33]⟩
abbrev S1x33x64 : Shape := ⟨3, ![1, 33, 64]⟩
abbrev S1x64 : Shape := ⟨2, ![1, 64]⟩
abbrev S1x64x64 : Shape := ⟨3, ![1, 64, 64]⟩
abbrev S1x64x4096 : Shape := ⟨3, ![1, 64, 4096]⟩
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S4096 : Shape := ⟨1, ![4096]⟩
abbrev S_ : Shape := ⟨0, ![]⟩
abbrev S4096x64 : Shape := ⟨2, ![4096, 64]⟩
abbrev S4096x4096 : Shape := ⟨2, ![4096, 4096]⟩
abbrev S4096x2x2x1024 : Shape := ⟨4, ![4096, 2, 2, 1024]⟩
abbrev S1023 : Shape := ⟨1, ![1023]⟩
abbrev S1 : Shape := ⟨1, ![1]⟩
abbrev S1024 : Shape := ⟨1, ![1024]⟩
abbrev S4096x1 : Shape := ⟨2, ![4096, 1]⟩
abbrev S1x1024 : Shape := ⟨2, ![1, 1024]⟩
abbrev S4096x1024 : Shape := ⟨2, ![4096, 1024]⟩
abbrev S4096x1x1x1024 : Shape := ⟨4, ![4096, 1, 1, 1024]⟩
abbrev S4096x2x1x1024 : Shape := ⟨4, ![4096, 2, 1, 1024]⟩
abbrev S4096x2x1024 : Shape := ⟨3, ![4096, 2, 1024]⟩
abbrev S1x2x1024 : Shape := ⟨3, ![1, 2, 1024]⟩
abbrev S4095x2x1024 : Shape := ⟨3, ![4095, 2, 1024]⟩
abbrev S8192x2x1024 : Shape := ⟨3, ![8192, 2, 1024]⟩
abbrev S8192x2048 : Shape := ⟨2, ![8192, 2048]⟩

abbrev nBuf : Space → Nat
  | .hbm => 80
  | .vmem => 0
  | .smem => 0
  | _ => 0

abbrev bufTy : (tb : Table) → Fin (tcTables nBuf tb) → BufTy
  | .hbm, ⟨0, _⟩ => ⟨S4096x33, .f32⟩
  | .hbm, ⟨1, _⟩ => ⟨S1x33x64, .f32⟩
  | .hbm, ⟨2, _⟩ => ⟨S1x64, .f32⟩
  | .hbm, ⟨3, _⟩ => ⟨S1x64, .f32⟩
  | .hbm, ⟨4, _⟩ => ⟨S1x64x64, .f32⟩
  | .hbm, ⟨5, _⟩ => ⟨S1x64, .f32⟩
  | .hbm, ⟨6, _⟩ => ⟨S1x64, .f32⟩
  | .hbm, ⟨7, _⟩ => ⟨S1x64x4096, .f32⟩
  | .hbm, ⟨8, _⟩ => ⟨S33x64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64x4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096x64, .f32⟩
  | .hbm, ⟨20, _⟩ => ⟨S1x64, .f32⟩
  | .hbm, ⟨21, _⟩ => ⟨S4096x64, .f32⟩
  | .hbm, ⟨22, _⟩ => ⟨S4096x64, .f32⟩
  | .hbm, ⟨23, _⟩ => ⟨S1x64, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S1x64, .f32⟩
  | .hbm, ⟨29, _⟩ => ⟨S4096x64, .f32⟩
  | .hbm, ⟨30, _⟩ => ⟨S4096x64, .f32⟩
  | .hbm, ⟨31, _⟩ => ⟨S1x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x4096, .f32⟩
  | .hbm, ⟨36, _⟩ => ⟨S4096x2x2x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1023, .f32⟩
  | .hbm, ⟨45, _⟩ => ⟨S_, .f32⟩
  | .hbm, ⟨46, _⟩ => ⟨S1023, .f32⟩
  | .hbm, ⟨47, _⟩ => ⟨S1023, .f32⟩
  | .hbm, ⟨48, _⟩ => ⟨S1, .f32⟩
  | .hbm, ⟨49, _⟩ => ⟨S_, .f32⟩
  | .hbm, ⟨50, _⟩ => ⟨S1023, .f32⟩
  | .hbm, ⟨51, _⟩ => ⟨S1023, .f32⟩
  | .hbm, ⟨52, _⟩ => ⟨S1023, .f32⟩
  | .hbm, ⟨53, _⟩ => ⟨S1023, .f32⟩
  | .hbm, ⟨54, _⟩ => ⟨S1, .f32⟩
  | .hbm, ⟨55, _⟩ => ⟨S1023, .f32⟩
  | .hbm, ⟨56, _⟩ => ⟨S1023, .f32⟩
  | .hbm, ⟨57, _⟩ => ⟨S1023, .f32⟩
  | .hbm, ⟨58, _⟩ => ⟨S1, .f32⟩
  | .hbm, ⟨59, _⟩ => ⟨S1024, .f32⟩
  | .hbm, ⟨60, _⟩ => ⟨S4096x1, .f32⟩
  | .hbm, ⟨61, _⟩ => ⟨S4096x1, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1x1x1024, .f32⟩
  | .hbm, ⟨69, _⟩ => ⟨S4096x2x2x1024, .f32⟩
  | .hbm, ⟨70, _⟩ => ⟨S4096x2x2x1024, .f32⟩
  | .hbm, ⟨71, _⟩ => ⟨S4096x2x1x1024, .f32⟩
  | .hbm, ⟨72, _⟩ => ⟨S4096x2x1024, .f32⟩
  | .hbm, ⟨73, _⟩ => ⟨S4096x2x1x1024, .f32⟩
  | .hbm, ⟨74, _⟩ => ⟨S4096x2x1024, .f32⟩
  | .hbm, ⟨75, _⟩ => ⟨S1x2x1024, .f32⟩
  | .hbm, ⟨76, _⟩ => ⟨S4095x2x1024, .f32⟩
  | .hbm, ⟨77, _⟩ => ⟨S4095x2x1024, .f32⟩
  | .hbm, ⟨78, _⟩ => ⟨S8192x2x1024, .f32⟩
  | .hbm, ⟨79, _⟩ => ⟨S8192x2048, .f32⟩
  | _, _ => ⟨S4096x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_cst : Ref sig .tc := ⟨.hbm, 42, rfl⟩
abbrev main_call0_v3 : Ref sig .tc := ⟨.hbm, 43, rfl⟩
abbrev main_call0_v4 : Ref sig .tc := ⟨.hbm, 44, rfl⟩
abbrev main_call0_cst_0 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_v15 : Ref sig .tc := ⟨.hbm, 57, rfl⟩
abbrev main_call0_v16 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩

abbrev nD : Nat := 1
abbrev τ : Topo := Topo.v7x

variable {F : FTy → Type} [FloatOps F]
-- ==== Proof.Soft.lean ====
/-
  The softmax of the windowed attention: the stages both programs go through once scores, sink logits and values are given, and what
  an entry of each is. The sink logit takes part in the maximum and in the denominator and adds no value.
-/
module

public import proofs.«01_k».proof.Proof.Gen.KernelIdeal.Frame
public import proofs.«01_k».proof.Proof.Gen.ReferenceIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Soft

/-- The larger of a row's greatest score and its sink logit. -/
def top (s : Fin 384 → EReal) (z : EReal) : EReal :=
  max (Finset.fold max (Ideal.ofBits FTy.f32 0xFF800000#32) s Finset.univ) z

/-- A row's denominator. -/
def den (s : Fin 384 → EReal) (z : EReal) : EReal :=
  ∑ k, Ideal.exp (s k - top s z) + Ideal.exp (z - top s z)

/-- A row's weights times its values. -/
def mix (s : Fin 384 → EReal) (z : EReal) (v : Fin 384 → EReal) : EReal :=
  ∑ k, Ideal.div (Ideal.exp (s k - top s z)) (den s z) * v k

theorem exp_nonneg (x : EReal) : 0 ≤ Ideal.exp x := by
  induction x with
  | bot => exact le_refl _
  | top => exact le_top
  | coe r => exact EReal.coe_nonneg.2 (Real.exp_pos r).le

/-- Minus infinity times anything is unchanged by adding it once more. -/
theorem bot_mul_twice (x : EReal) : (⊥ : EReal) * x + ⊥ * x = ⊥ * x := by
  rcases lt_trichotomy x 0 with h | h | h
  · rw [EReal.bot_mul_of_neg h]; rfl
  · subst h; simp
  · rw [EReal.bot_mul_of_pos h]; rfl

/-- Terms that repeat others of a sum, each unchanged by adding it once more, add nothing. -/
theorem absorb {ι : Type*} [DecidableEq ι] (f : ι → EReal) (hf : ∀ k, f k + f k = f k) (p : ι → ι) (S D : Finset ι)
    (h : ∀ k ∈ D, p k ∈ S ∧ f k = f (p k)) : ∑ k ∈ D, f k + ∑ k ∈ S, f k = ∑ k ∈ S, f k := by
  induction D using Finset.induction_on with
  | empty => simp
  | insert a D ha ih =>
    rw [Finset.sum_insert ha, add_assoc, ih fun k hk => h k (Finset.mem_insert_of_mem hk)]
    obtain ⟨hs, he⟩ := h a (Finset.mem_insert_self a D)
    rw [← Finset.add_sum_erase S f hs, he, ← add_assoc, hf]

/-- Values at keys outside the sequence do not matter: there the score is minus infinity, so the weight is nought; and if the
    denominator is nought every weight is minus infinity and each value outside the sequence repeats one inside it. -/
theorem mix_congr (s : Fin 384 → EReal) (z : EReal) (v w : Fin 384 → EReal) (P : Fin 384 → Prop) [DecidablePred P] (p : Fin 384 → Fin 384)
    (h : ∀ k, P k → s k = ⊥ ∧ w k = 0 ∧ ¬ P (p k) ∧ v k = v (p k)) (g : ∀ k, ¬ P k → v k = w k) : mix s z v = mix s z w := by
  unfold mix
  by_cases hd : den s z = 0
  · have e : ∑ k, Ideal.exp (s k - top s z) = 0 ∧ Ideal.exp (z - top s z) = 0 :=
      (add_eq_zero_iff_of_nonneg (Finset.sum_nonneg fun k _ => exp_nonneg _) (exp_nonneg _)).1 hd
    have e' : ∀ k, Ideal.div (Ideal.exp (s k - top s z)) (den s z) = ⊥ := fun k => by
      have := (Finset.sum_eq_zero_iff_of_nonneg (fun k _ => exp_nonneg _)).1 e.1 k (Finset.mem_univ k)
      rw [this, hd]; simp [Ideal.div]
    simp only [e']
    rw [← Finset.sum_filter_add_sum_filter_not Finset.univ P, ← Finset.sum_filter_add_sum_filter_not Finset.univ P (fun k => ⊥ * w k)]
    rw [absorb (fun k => ⊥ * v k) (fun k => bot_mul_twice _) p]
    · rw [Finset.sum_eq_zero (s := Finset.univ.filter P) (f := fun k => ⊥ * w k), zero_add]
      · exact Finset.sum_congr rfl fun k hk => by rw [g k (Finset.mem_filter.1 hk).2]
      · intro k hk
        show ⊥ * w k = 0
        rw [(h k (Finset.mem_filter.1 hk).2).2.1, mul_zero]
    · intro k hk
      obtain ⟨-, -, h3, h4⟩ := h k (Finset.mem_filter.1 hk).2
      exact ⟨Finset.mem_filter.2 ⟨Finset.mem_univ _, h3⟩, by show ⊥ * v k = ⊥ * v (p k); rw [← h4]⟩
  · refine Finset.sum_congr rfl fun k _ => ?_
    by_cases hk : P k
    · rw [(h k hk).1, EReal.bot_sub]
      simp [Ideal.div, hd]
    · rw [g k hk]

end Cert.Soft

namespace Cert.KernelIdeal.Soft

open Cert.KernelIdeal Cert.KernelIdeal.Gen

/-- The larger of a row's greatest score and its sink logit, as a column. -/
abbrev TOP (S : FVec Ideal S512x384 .f32) (K : FVec Ideal S512x1 .f32) : FVec Ideal S512x1 .f32 :=
  maximumf (shapeCast S512x1 (multiReduction .maximumf [1] S512 S 0xFF800000#32 reduces_S512x384_S512 (.inl rfl) rfl) shapeCasts_S512_S512x1) K

/-- The exponentials of the scores less the row's top. -/
abbrev EXPS (S : FVec Ideal S512x384 .f32) (K : FVec Ideal S512x1 .f32) : FVec Ideal S512x384 .f32 :=
  exp (subf S (broadcastTo S512x384 (TOP S K) broadcasts_S512x1_S512x384))

/-- The rows' denominators. -/
abbrev DEN (S : FVec Ideal S512x384 .f32) (K : FVec Ideal S512x1 .f32) : FVec Ideal S512x1 .f32 :=
  addf (shapeCast S512x1 (multiReduction .add [1] S512 (EXPS S K) 0x00000000#32 reduces_S512x384_S512 (.inl rfl) rfl) shapeCasts_S512_S512x1)
    (exp (subf K (TOP S K)))

/-- The weighted values. -/
abbrev TAIL (S : FVec Ideal S512x384 .f32) (K : FVec Ideal S512x1 .f32) (W : FVec Ideal S384x128 .bf16) : FVec Ideal S512x128 .f32 :=
  matmul dot_S512x384_S384x128_S512x128_1_0_0_1_n_n none
    (truncf .bf16 (divf (EXPS S K) (broadcastTo S512x384 (DEN S K) broadcasts_S512x1_S512x384)) bitsLt_bf16_f32 : FVec Ideal S512x384 .bf16)
    W (constant S512x128 .f32 0x00000000#32)

theorem tail_at (S : FVec Ideal S512x384 .f32) (K : FVec Ideal S512x1 .f32) (W : FVec Ideal S384x128 .bf16) (r : Fin 512) (d : Fin 128) :
    TAIL S K W (ix2 r d) = Soft.mix (fun k => S (ix2 r k)) (K (ix2 r 0)) (fun k => W (ix2 k d)) := by
  pointwise [TAIL, DEN, EXPS, TOP, Soft.mix, Soft.den, Soft.top]

end Cert.KernelIdeal.Soft

namespace Cert.ReferenceIdeal.Soft

open Cert.ReferenceIdeal Cert.ReferenceIdeal.Gen

/-- The sink logits, one for each head. -/
abbrev SINK (a2 : FVec Ideal S1x8 .f32) : FVec Ideal S1x1x2x4x1x1 .f32 :=
  broadcastInDim S1x1x2x4x1x1 ![2, 3] bcast_S2x4_S1x1x2x4x1x1_2_3 (shapeCast S2x4 (shapeCast S8 a2 shapeCasts_S1x8_S8) shapeCasts_S8_S2x4)

/-- A row's greatest score. -/
def RMAX (S : FVec Ideal S2x32x2x4x128x384 .f32) : FVec Ideal S2x32x2x4x128 .f32 :=
  Host.reduce FloatOps.maximumf S (constant S_ .f32 0xFF800000#32) reducesTo_S2x32x2x4x128x384_S2x32x2x4x128_d5 h_S_

/-- A row's sum. -/
def RSUM (S : FVec Ideal S2x32x2x4x128x384 .f32) : FVec Ideal S2x32x2x4x128 .f32 :=
  Host.reduceAdd S (constant S_ .f32 0x00000000#32) reducesTo_S2x32x2x4x128x384_S2x32x2x4x128_d5 h_S_

/-- A row of the scores: the batch, block, key head, query head of the group and query kept. -/
theorem reduces_keys : S2x32x2x4x128x384.Reduces [5] S2x32x2x4x128 := by decide

theorem lift_keys (b : Fin 2) (n : Fin 32) (g : Fin 2) (j : Fin 4) (q : Fin 128) (k : Fin 384) :
    reduces_keys.lift (ix5 b n g j q) k = ix6 b n g j q k := by
  funext a; apply Fin.ext
  match a with
  | ⟨0, _⟩ => rfl
  | ⟨1, _⟩ => rfl
  | ⟨2, _⟩ => rfl
  | ⟨3, _⟩ => rfl
  | ⟨4, _⟩ => rfl
  | ⟨5, _⟩ => rfl

theorem rmax_at (S : FVec Ideal S2x32x2x4x128x384 .f32) (b : Fin 2) (n : Fin 32) (g : Fin 2) (j : Fin 4) (q : Fin 128) :
    RMAX S (ix5 b n g j q) = Finset.fold max (Ideal.ofBits FTy.f32 0xFF800000#32) (fun k => S (ix6 b n g j q k)) Finset.univ := by
  unfold RMAX
  refine (Host.reduce_eq_fold_single (FloatOps.maximumf (F := Ideal) (φ := .f32)) S _ _ reduces_keys h_S_ _).trans ?_
  refine congrArg (fun f => Finset.fold max (Ideal.ofBits FTy.f32 0xFF800000#32) f Finset.univ) (funext fun k => ?_)
  exact congrArg S (lift_keys b n g j q k)

theorem rsum_at (S : FVec Ideal S2x32x2x4x128x384 .f32) (b : Fin 2) (n : Fin 32) (g : Fin 2) (j : Fin 4) (q : Fin 128) :
    RSUM S (ix5 b n g j q) = ∑ k, S (ix6 b n g j q k) := by
  refine (Ideal.hostReduceAdd_single reducesTo_S2x32x2x4x128x384_S2x32x2x4x128_d5 reduces_keys S _ _).trans ?_
  rw [show (constant (F := Ideal) S_ .f32 0x00000000#32) (Shape.Idx.first h_S_) = (0 : EReal) from Ideal.ofBits_zero_f32, zero_add]
  exact Finset.sum_congr rfl fun k _ => congrArg S (lift_keys b n g j q k)

/-- The larger of each row's greatest score and its sink logit, as a column. -/
def TOP (S : FVec Ideal S2x32x2x4x128x384 .f32) (K : FVec Ideal S1x1x2x4x1x1 .f32) : FVec Ideal S2x32x2x4x128x1 .f32 :=
  maximumf (broadcastInDim S2x32x2x4x128x1 ![0, 1, 2, 3, 4] bcast_S2x32x2x4x128_S2x32x2x4x128x1_0_1_2_3_4 (RMAX S))
    (broadcastInDim S2x32x2x4x128x1 ![0, 1, 2, 3, 4, 5] bcast_S1x1x2x4x1x1_S2x32x2x4x128x1_0_1_2_3_4_5 K)

theorem col_at (R : FVec Ideal S2x32x2x4x128 .f32) (b : Fin 2) (n : Fin 32) (g : Fin 2) (j : Fin 4) (q : Fin 128) :
    (broadcastInDim S2x32x2x4x128x1 ![0, 1, 2, 3, 4] bcast_S2x32x2x4x128_S2x32x2x4x128x1_0_1_2_3_4 R) (ix6 b n g j q 0) = R (ix5 b n g j q) := by
  pointwise

theorem sink_at (K : FVec Ideal S1x1x2x4x1x1 .f32) (b : Fin 2) (n : Fin 32) (g : Fin 2) (j : Fin 4) (q : Fin 128) :
    (broadcastInDim S2x32x2x4x128x1 ![0, 1, 2, 3, 4, 5] bcast_S1x1x2x4x1x1_S2x32x2x4x128x1_0_1_2_3_4_5 K) (ix6 b n g j q 0) = K (ix6 0 0 g j 0 0) := by
  pointwise

theorem top_at (S : FVec Ideal S2x32x2x4x128x384 .f32) (K : FVec Ideal S1x1x2x4x1x1 .f32) (b : Fin 2) (n : Fin 32) (g : Fin 2) (j : Fin 4) (q : Fin 128) :
    TOP S K (ix6 b n g j q 0) = Soft.top (fun k => S (ix6 b n g j q k)) (K (ix6 0 0 g j 0 0)) := by
  refine Eq.trans (maximumf_apply _ _ _) ?_
  rw [col_at, sink_at, rmax_at, Ideal.maximumf_def]
  unfold Soft.top
  with_reducible rfl

/-- The exponentials of the scores less the row's top. -/
def EXPS (S : FVec Ideal S2x32x2x4x128x384 .f32) (K : FVec Ideal S1x1x2x4x1x1 .f32) : FVec Ideal S2x32x2x4x128x384 .f32 :=
  Host.exp (subf S (broadcastInDim S2x32x2x4x128x384 ![0, 1, 2, 3, 4, 5] bcast_S2x32x2x4x128x1_S2x32x2x4x128x384_0_1_2_3_4_5 (TOP S K)))

theorem exps_at (S : FVec Ideal S2x32x2x4x128x384 .f32) (K : FVec Ideal S1x1x2x4x1x1 .f32) (b : Fin 2) (n : Fin 32) (g : Fin 2) (j : Fin 4) (q : Fin 128) (k : Fin 384) :
    EXPS S K (ix6 b n g j q k) = Ideal.exp (S (ix6 b n g j q k) - Soft.top (fun k => S (ix6 b n g j q k)) (K (ix6 0 0 g j 0 0))) := by
  rw [← top_at]
  unfold EXPS
  generalize TOP S K = R
  pointwise

/-- The rows' denominators. -/
def DEN (S : FVec Ideal S2x32x2x4x128x384 .f32) (K : FVec Ideal S1x1x2x4x1x1 .f32) : FVec Ideal S2x32x2x4x128x1 .f32 :=
  addf (broadcastInDim S2x32x2x4x128x1 ![0, 1, 2, 3, 4] bcast_S2x32x2x4x128_S2x32x2x4x128x1_0_1_2_3_4 (RSUM (EXPS S K)))
    (Host.exp (subf (broadcastInDim S2x32x2x4x128x1 ![0, 1, 2, 3, 4, 5] bcast_S1x1x2x4x1x1_S2x32x2x4x128x1_0_1_2_3_4_5 K) (TOP S K)))

theorem den_at (S : FVec Ideal S2x32x2x4x128x384 .f32) (K : FVec Ideal S1x1x2x4x1x1 .f32) (b : Fin 2) (n : Fin 32) (g : Fin 2) (j : Fin 4) (q : Fin 128) :
    DEN S K (ix6 b n g j q 0) = Soft.den (fun k => S (ix6 b n g j q k)) (K (ix6 0 0 g j 0 0)) := by
  unfold Soft.den
  rw [← top_at, ← Finset.sum_congr rfl fun k _ => (exps_at S K b n g j q k).trans (congrArg (fun z => Ideal.exp (_ - z)) (top_at S K b n g j q).symm), ← rsum_at]
  unfold DEN
  generalize RSUM (EXPS S K) = R
  generalize TOP S K = T
  pointwise

/-- The softmax weights. -/
def PROB (S : FVec Ideal S2x32x2x4x128x384 .f32) (K : FVec Ideal S1x1x2x4x1x1 .f32) : FVec Ideal S2x32x2x4x128x384 .f32 :=
  Host.divf (EXPS S K) (broadcastInDim S2x32x2x4x128x384 ![0, 1, 2, 3, 4, 5] bcast_S2x32x2x4x128x1_S2x32x2x4x128x384_0_1_2_3_4_5 (DEN S K))

theorem prob_at (S : FVec Ideal S2x32x2x4x128x384 .f32) (K : FVec Ideal S1x1x2x4x1x1 .f32) (b : Fin 2) (n : Fin 32) (g : Fin 2) (j : Fin 4) (q : Fin 128) (k : Fin 384) :
    PROB S K (ix6 b n g j q k) = Ideal.div (Ideal.exp (S (ix6 b n g j q k) - Soft.top (fun k => S (ix6 b n g j q k)) (K (ix6 0 0 g j 0 0))))
      (Soft.den (fun k => S (ix6 b n g j q k)) (K (ix6 0 0 g j 0 0))) := by
  rw [← den_at, ← exps_at]
  unfold PROB
  generalize EXPS S K = R
  generalize DEN S K = T
  pointwise

/-- The weighted values, heads side by side in each token's row. -/
def TAIL (P : FVec Ideal S2x32x2x4x128x384 .f32) (W : FVec Ideal S2x32x384x2x128 .f32) : FVec Ideal S8192x1024 .f32 :=
  shapeCast S8192x1024 (shapeCast S2x4096x1024 (transpose S2x32x128x2x4x128 [0, 1, 5, 2, 4, 3]
    (Host.dotGeneral dot_S2x32x384x2x128_S2x32x2x4x128x384_S2x32x2x128x4x128_2_5_4_34_013_012 none W P)
    transposes_S2x32x2x128x4x128_S2x32x128x2x4x128_0_1_5_2_4_3) shapeCasts_S2x32x128x2x4x128_S2x4096x1024) shapeCasts_S2x4096x1024_S8192x1024

theorem tail_at (S : FVec Ideal S2x32x2x4x128x384 .f32) (K : FVec Ideal S1x1x2x4x1x1 .f32) (W : FVec Ideal S2x32x384x2x128 .f32) (x : S8192x1024.Idx)
    (b : Fin 2) (n : Fin 32) (g : Fin 2) (j : Fin 4) (q d : Fin 128) (h0 : b.val = (x 0).val / 4096) (h1 : n.val = (x 0).val / 128 % 32)
    (h2 : q.val = (x 0).val % 128) (h3 : g.val = (x 1).val / 512) (h4 : j.val = (x 1).val / 128 % 4) (h5 : d.val = (x 1).val % 128) :
    TAIL (PROB S K) W x = Soft.mix (fun k => S (ix6 b n g j q k)) (K (ix6 0 0 g j 0 0)) (fun k => W (ix5 b n k g d)) := by
  unfold Soft.mix
  rw [← Finset.sum_congr rfl fun k _ => (mul_comm _ _).trans (congrArg (fun z => z * W (ix5 b n k g d)) (prob_at S K b n g j q k))]
  generalize PROB S K = P
  pointwise [TAIL]
  refine Finset.sum_congr rfl fun k _ => ?_
  refine congrArg₂ (· * ·) (congrArg W ?_) (congrArg P ?_)
  · blk_ext
  · blk_ext

end Cert.ReferenceIdeal.Soft

end
-- ==== Proof.Words.lean ====
/-
  The attention's index words as numbers: which pairs lie in the window, and the bucket a relative position falls into.
-/
module

public import Idealize.ShloMosaic.Lib.Pipeline.ValueKit
public import Idealize.ShloMosaic.Lib.Claim

@[expose] public section

noncomputable section

open Idealize.ShloMosaic Idealize.ShloMosaic.TcCoe Idealize.SL.Sem

namespace Cert.Soft

/-- The keys a query attends to: inside the window, inside the sequence. -/
def Band (n q k : Nat) : Prop := (q ≤ k ∧ k ≤ q + 256) ∧ 128 ≤ n * 128 + k ∧ n * 128 + k < 4224

instance (n q k : Nat) : Decidable (Band n q k) := by unfold Band; infer_instance

/-- Key position less query position, as a word. -/
abbrev relw (q k : Nat) : BitVec 32 := IntOp.subi (IntOp.subi (BitVec.ofNat 32 k) 128#32) (BitVec.ofNat 32 q)

/-- A key's place in its sequence, as a word. -/
abbrev absw (n k : Nat) : BitVec 32 := IntOp.subi (IntOp.addi (IntOp.muli (BitVec.ofNat 32 n) 128#32) (BitVec.ofNat 32 k)) 128#32

/-- The mask's bit, as both programs compute it. -/
abbrev bandw (n q k : Nat) : BitVec 1 :=
  IntOp.andi (IntOp.andi (IntOp.cmpi .sle (IntOp.absi (relw q k)) 128#32) (IntOp.cmpi .sge (absw n k) 0#32)) (IntOp.cmpi .slt (absw n k) 4096#32)

theorem rel_toInt (q k : Nat) (hq : q < 128) (hk : k < 384) : (relw q k).toInt = (k : Int) - 128 - q := by
  unfold relw IntOp.subi
  rw [BitVec.toInt_eq_toNat_cond, BitVec.toNat_sub, BitVec.toNat_sub, BitVec.toNat_ofNat, BitVec.toNat_ofNat, BitVec.toNat_ofNat]
  split <;> omega

theorem abs_toInt (q k : Nat) (hq : q < 128) (hk : k < 384) : (IntOp.absi (relw q k)).toInt = |(k : Int) - 128 - q| := by
  have h := rel_toInt q k hq hk
  have hm : (relw q k).msb = decide ((relw q k).toInt < 0) := BitVec.msb_eq_toInt
  unfold IntOp.absi
  rw [hm, h]
  by_cases c : (k : Int) - 128 - q < 0
  · rw [if_pos (by simpa using c), BitVec.toInt_neg, h, abs_of_neg c]
    rw [Int.bmod_def]; split <;> omega
  · rw [if_neg (by simpa using c), h, abs_of_nonneg (by omega)]

theorem absw_toInt (n k : Nat) (hn : n < 32) (hk : k < 384) : (absw n k).toInt = (n : Int) * 128 + k - 128 := by
  unfold absw IntOp.subi IntOp.addi IntOp.muli
  rw [BitVec.toInt_eq_toNat_cond, BitVec.toNat_sub, BitVec.toNat_add, BitVec.toNat_mul, BitVec.toNat_ofNat, BitVec.toNat_ofNat, BitVec.toNat_ofNat]
  split <;> omega

theorem bandw_eq (n q k : Nat) (hn : n < 32) (hq : q < 128) (hk : k < 384) : bandw n q k = if Band n q k then 1#1 else 0#1 := by
  have e1 : IntOp.cmpi .sle (IntOp.absi (relw q k)) 128#32 = BitVec.ofBool (decide (q ≤ k ∧ k ≤ q + 256)) := by
    unfold IntOp.cmpi
    refine congrArg BitVec.ofBool ?_
    show BitVec.sle _ _ = _
    rw [BitVec.sle_eq_decide, abs_toInt q k hq hk]
    refine decide_eq_decide.2 ?_
    rw [show (128#32 : BitVec 32).toInt = 128 from by decide, abs_le]
    omega
  have e2 : IntOp.cmpi .sge (absw n k) 0#32 = BitVec.ofBool (decide (128 ≤ n * 128 + k)) := by
    unfold IntOp.cmpi
    refine congrArg BitVec.ofBool ?_
    show BitVec.sle _ _ = _
    rw [BitVec.sle_eq_decide, absw_toInt n k hn hk]
    refine decide_eq_decide.2 ?_
    rw [show (0#32 : BitVec 32).toInt = 0 from by decide]
    omega
  have e3 : IntOp.cmpi .slt (absw n k) 4096#32 = BitVec.ofBool (decide (n * 128 + k < 4224)) := by
    unfold IntOp.cmpi
    refine congrArg BitVec.ofBool ?_
    show BitVec.slt _ _ = _
    rw [BitVec.slt_eq_decide, absw_toInt n k hn hk]
    refine decide_eq_decide.2 ?_
    rw [show (4096#32 : BitVec 32).toInt = 4096 from by decide]
    omega
  unfold bandw
  rw [e1, e2, e3]
  unfold Band IntOp.andi
  by_cases h1 : q ≤ k ∧ k ≤ q + 256 <;> by_cases h2 : 128 ≤ n * 128 + k <;> by_cases h3 : n * 128 + k < 4224 <;> simp [h1, h2, h3]

theorem select_band {α : Type} (n q k : Nat) (hn : n < 32) (hq : q < 128) (hk : k < 384) (a b : α) :
    Scalar.select (bandw n q k) a b = if Band n q k then a else b := by
  rw [bandw_eq n q k hn hq hk]
  unfold Scalar.select
  by_cases h : Band n q k <;> simp [h]

/-! ## Buckets -/

theorem ofBits_8 : Ideal.ofBits .f32 0x41000000#32 = ((8 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_log16 : Ideal.ofBits .f32 0x40317218#32 = ((11629080 / 4194304 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

/-- The logarithmic part of a bucket, of a distance given as an extended real. -/
abbrev large (x : EReal) : EReal :=
  Ideal.div (Ideal.log (Ideal.div x (Ideal.ofBits .f32 0x41000000#32))) (Ideal.ofBits .f32 0x40317218#32) * Ideal.ofBits .f32 0x41000000#32

theorem large_word (a : ℤ) (h : 8 ≤ a) (h' : a < 256) : ∃ l : ℕ, l < 1000 ∧ Ideal.fptosi 32 (large ((a : ℝ) : EReal)) = BitVec.ofNat 32 l := by
  have ha : (8 : ℝ) ≤ a := by exact_mod_cast h
  have ha' : (a : ℝ) < 256 := by exact_mod_cast h'
  have hp : (0 : ℝ) < a * (1 / 8) := by linarith
  have h1 : (1 : ℝ) ≤ a * (1 / 8) := by linarith
  have hl0 : 0 ≤ Real.log (a * (1 / 8)) := Real.log_nonneg h1
  have hl1 : Real.log (a * (1 / 8)) ≤ 32 := by have := Real.log_le_sub_one_of_pos hp; linarith
  have e : large ((a : ℝ) : EReal) = ((Real.log (a * (1 / 8)) * (1 / (11629080 / 4194304)) * 8 : ℝ) : EReal) := by
    unfold large
    rw [ofBits_8, ofBits_log16, Ideal.div_coe (x := ((a : ℝ) : EReal)) (by norm_num), ← EReal.coe_mul, Ideal.log_coe, if_neg (not_le.2 hp), Ideal.div_coe (by norm_num), ← EReal.coe_mul, ← EReal.coe_mul]
  have y0 : 0 ≤ Real.log (a * (1 / 8)) * (1 / (11629080 / 4194304)) * 8 := by positivity
  have y1 : Real.log (a * (1 / 8)) * (1 / (11629080 / 4194304)) * 8 < 1000 := by norm_num; linarith
  rw [e]
  generalize Real.log (a * (1 / 8)) * (1 / (11629080 / 4194304)) * 8 = y at y0 y1
  have f0 : 0 ≤ ⌊y⌋ := Int.floor_nonneg.2 y0
  have f1 : ⌊y⌋ < 1000 := by rw [Int.floor_lt]; exact_mod_cast y1
  refine ⟨⌊y⌋.toNat, by omega, ?_⟩
  unfold Ideal.fptosi
  rw [Ideal.toIntClamped_coe, if_pos y0, min_eq_right (by norm_num; omega), max_eq_right (by norm_num; omega)]
  conv_lhs => rw [← Int.toNat_of_nonneg f0]
  exact BitVec.ofInt_natCast _ _

/-- A relative position's bucket, as both programs compute it from the word of the position. -/
abbrev bucketw (r : BitVec 32) : BitVec 32 :=
  IntOp.addi (IntOp.muli (BitVec.setWidth 32 (IntOp.cmpi .sgt r 0#32)) 16#32)
    (Scalar.select (IntOp.cmpi .slt (IntOp.absi r) 8#32) (IntOp.absi r)
      (IntOp.minsi (IntOp.addi 8#32 (Ideal.fptosi 32 (large (((IntOp.maxsi (IntOp.absi r) 1#32).toInt : ℝ) : EReal)))) 15#32))

theorem small_word (w : BitVec 32) (h0 : 0 ≤ w.toInt) (h1 : w.toInt < 256) :
    ∃ b : ℕ, b < 16 ∧ Scalar.select (IntOp.cmpi .slt w 8#32) w
      (IntOp.minsi (IntOp.addi 8#32 (Ideal.fptosi 32 (large (((IntOp.maxsi w 1#32).toInt : ℝ) : EReal)))) 15#32) = BitVec.ofNat 32 b := by
  have hw : w.toInt = w.toNat := by
    rw [BitVec.toInt_eq_toNat_cond] at h0 ⊢
    split <;> rename_i h <;> simp only [h, if_true, if_false] at h0 <;> omega
  by_cases h : w.toInt < 8
  · refine ⟨w.toNat, by omega, ?_⟩
    rw [show IntOp.cmpi .slt w 8#32 = 1#1 from by
      show BitVec.ofBool (w.slt 8#32) = _
      rw [BitVec.slt_eq_decide, show (8#32 : BitVec 32).toInt = 8 from by decide, decide_eq_true h]; rfl]
    unfold Scalar.select
    rw [if_pos (by decide), BitVec.ofNat_toNat, BitVec.setWidth_eq]
  · rw [show IntOp.cmpi .slt w 8#32 = 0#1 from by
      show BitVec.ofBool (w.slt 8#32) = _
      rw [BitVec.slt_eq_decide, show (8#32 : BitVec 32).toInt = 8 from by decide, decide_eq_false h]; rfl]
    unfold Scalar.select
    rw [if_neg (by decide)]
    have hm : IntOp.maxsi w 1#32 = w := by
      unfold IntOp.maxsi
      rw [if_pos (by rw [BitVec.slt_eq_decide, show (1#32 : BitVec 32).toInt = 1 from by decide]; exact decide_eq_true (by omega))]
    rw [hm]
    obtain ⟨l, hl, e⟩ := large_word w.toInt (by omega) h1
    rw [e]
    refine ⟨min (8 + l) 15, by omega, ?_⟩
    have es : IntOp.addi 8#32 (BitVec.ofNat 32 l) = BitVec.ofNat 32 (8 + l) := by
      unfold IntOp.addi; apply BitVec.eq_of_toNat_eq; simp
    rw [es]
    unfold IntOp.minsi
    have ei : (BitVec.ofNat 32 (8 + l)).toInt = 8 + l := by
      rw [BitVec.toInt_eq_toNat_cond, BitVec.toNat_ofNat]; split <;> omega
    rw [BitVec.slt_eq_decide, ei, show (15#32 : BitVec 32).toInt = 15 from by decide]
    by_cases c : 8 + l < 15
    · rw [if_pos (by simp; omega), min_eq_left (by omega)]
    · rw [if_neg (by simp; omega), min_eq_right (by omega)]

theorem bucket_lt (q k : Nat) (hq : q < 128) (hk : k < 384) : ∃ b : Fin 32, bucketw (relw q k) = BitVec.ofNat 32 b.val := by
  have ha := abs_toInt q k hq hk
  obtain ⟨b, hb, e⟩ := small_word (IntOp.absi (relw q k)) (by rw [ha]; exact abs_nonneg _) (by rw [ha, abs_lt]; omega)
  unfold bucketw
  rw [e]
  obtain h | h : IntOp.cmpi .sgt (relw q k) 0#32 = 0#1 ∨ IntOp.cmpi .sgt (relw q k) 0#32 = 1#1 := by
    show BitVec.ofBool (BitVec.slt 0#32 (relw q k)) = _ ∨ BitVec.ofBool (BitVec.slt 0#32 (relw q k)) = _
    generalize BitVec.slt 0#32 (relw q k) = x
    cases x <;> decide
  · refine ⟨⟨b, by omega⟩, ?_⟩
    rw [h]; unfold IntOp.addi IntOp.muli; apply BitVec.eq_of_toNat_eq; simp
  · refine ⟨⟨16 + b, by omega⟩, ?_⟩
    rw [h]; unfold IntOp.addi IntOp.muli; apply BitVec.eq_of_toNat_eq; simp

end Cert.Soft

end
-- ==== Proof.RefAttn.lean ====
/-
  The windowed attention's reference, stage by stage, and what an entry of each stage is.
-/
module

public import proofs.«01_k».proof.Proof.Gen.ReferenceIdeal.Run
public import proofs.«01_k».proof.Proof.Soft
public import proofs.«01_k».proof.Proof.Words
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen
open Cert.ReferenceIdeal.Soft (SINK PROB TAIL)

/-- Key position less query position, of every pair in a block's band. -/
def REL : IVec S128x384 32 :=
  subi (broadcastInDim S128x384 ![0, 1] bcast_S1x384_S128x384_0_1 (subi (broadcastInDim S1x384 ![1] bcast_S384_S1x384_1 (iotaInDim S384 32 0))
      (broadcastInDim S1x384 ![] bcast_S_S1x384 (constantI S_ 32 128#32))))
    (broadcastInDim S128x384 ![0, 1] bcast_S128x1_S128x384_0_1 (broadcastInDim S128x1 ![0] bcast_S128_S128x1_0 (iotaInDim S128 32 0)))

/-- One number in every entry of the table of pairs. -/
abbrev ALLI (w : BitVec 32) : IVec S128x384 32 := broadcastInDim S128x384 ![] bcast_S_S128x384 (constantI S_ 32 w)
abbrev ALLF (w : BitVec 32) : FVec Ideal S128x384 .f32 := broadcastInDim S128x384 ![] bcast_S_S128x384 (constant S_ .f32 w)

/-- The buckets of the larger distances, before the limit: logarithmic. -/
def LARGE : IVec S128x384 32 :=
  fptosi 32 (mulf (Host.divf (Host.log (Host.divf (sitofp .f32 (maxsi (absi REL) (ALLI 1#32)) : FVec Ideal S128x384 .f32) (ALLF 0x41000000#32))) (ALLF 0x40317218#32)) (ALLF 0x41000000#32))

/-- The relative position's bucket. -/
def BUCKET : IVec S128x384 32 :=
  addi (muli (extui 32 (cmpi .sgt REL (ALLI 0#32)) natLt_1_32) (ALLI 16#32))
    (select (cmpi .slt (absi REL) (ALLI 8#32)) (absi REL) (minsi (addi (ALLI 8#32) LARGE) (ALLI 15#32)))

/-- The bias of every head at every pair. -/
def BIAS (a1 : FVec Ideal S32x8 .f32) : FVec Ideal S2x4x128x384 .f32 :=
  shapeCast S2x4x128x384 (transpose S8x128x384 [2, 0, 1] (Host.gather gather_S32x8_S128x384x1_S128x384x8_2_0_n_n_0_2_18 a1
    (broadcastInDim S128x384x1 ![0, 1] bcast_S128x384_S128x384x1_0_1 (select (cmpi .slt BUCKET (ALLI 0#32)) (addi BUCKET (ALLI 32#32)) BUCKET)))
    transposes_S128x384x8_S8x128x384_2_0_1) shapeCasts_S8x128x384_S2x4x128x384

/-- The absolute position of every key in every block's band. -/
abbrev KABS : IVec S32x1x384 32 :=
  subi (addi (broadcastInDim S32x1x384 ![0, 1, 2] bcast_S32x1x1_S32x1x384_0_1_2 (muli (broadcastInDim S32x1x1 ![0] bcast_S32_S32x1x1_0 (iotaInDim S32 32 0))
      (broadcastInDim S32x1x1 ![] bcast_S_S32x1x1 (constantI S_ 32 128#32))))
    (broadcastInDim S32x1x384 ![0, 1, 2] bcast_S1x1x384_S32x1x384_0_1_2 (broadcastInDim S1x1x384 ![2] bcast_S384_S1x1x384_2 (iotaInDim S384 32 0))))
    (broadcastInDim S32x1x384 ![] bcast_S_S32x1x384 (constantI S_ 32 128#32))

/-- The pairs inside the window and inside the sequence. -/
def MASK : IVec S1x32x1x1x128x384 1 :=
  broadcastInDim S1x32x1x1x128x384 ![1, 4, 5] bcast_S32x128x384_S1x32x1x1x128x384_1_4_5
    (andi (andi (broadcastInDim S32x128x384 ![0, 1, 2] bcast_S1x128x384_S32x128x384_0_1_2 (broadcastInDim S1x128x384 ![1, 2] bcast_S128x384_S1x128x384_1_2
        (cmpi .sle (absi REL) (ALLI 128#32))))
      (broadcastInDim S32x128x384 ![0, 1, 2] bcast_S32x1x384_S32x128x384_0_1_2 (cmpi .sge KABS (broadcastInDim S32x1x384 ![] bcast_S_S32x1x384 (constantI S_ 32 0#32)))))
      (broadcastInDim S32x128x384 ![0, 1, 2] bcast_S32x1x384_S32x128x384_0_1_2 (cmpi .slt KABS (broadcastInDim S32x1x384 ![] bcast_S_S32x1x384 (constantI S_ 32 4096#32)))))

/-- The sequences padded with a block of noughts at either end, cut into blocks. -/
def PADDED (z : FVec Ideal S2x4096x2x128 .f32) : FVec Ideal S2x34x128x2x128 .f32 :=
  shapeCast S2x34x128x2x128 (pad S2x4352x2x128 ![0, 128, 0, 0] ![0, 128, 0, 0] ![0, 0, 0, 0] z (sitofp .f32 (constantI S_ 32 0#32))
    pads_S2x4096x2x128_S2x4352x2x128_000_1281280_000_000 h_S_) shapeCasts_S2x4352x2x128_S2x34x128x2x128

/-- Three blocks beside each other: the previous, the same and the next. -/
def BAND3 (w : FVec Ideal S2x34x128x2x128 .f32) : FVec Ideal S2x32x384x2x128 .f32 :=
  concatenate S2x32x384x2x128 2
    [⟨S2x32x128x2x128, extractStridedSlice S2x32x128x2x128 ![0, 0, 0, 0, 0] w slices_S2x34x128x2x128_S2x32x128x2x128_0_0_0_0_0⟩,
     ⟨S2x32x128x2x128, extractStridedSlice S2x32x128x2x128 ![0, 1, 0, 0, 0] w slices_S2x34x128x2x128_S2x32x128x2x128_0_1_0_0_0⟩,
     ⟨S2x32x128x2x128, extractStridedSlice S2x32x128x2x128 ![0, 2, 0, 0, 0] w slices_S2x34x128x2x128_S2x32x128x2x128_0_2_0_0_0⟩]
    concatenates_S2x32x128x2x128_S2x32x128x2x128_S2x32x128x2x128_S2x32x384x2x128_d2

/-- The queries, by block, key head and query head. -/
def QRY (a0 : FVec Ideal S8192x4608 .f32) : FVec Ideal S2x32x128x2x4x128 .f32 :=
  shapeCast S2x32x128x2x4x128 (shapeCast S2x4096x8x128 (extractStridedSlice S2x4096x1024 ![0, 0, 0] (shapeCast S2x4096x4608 a0 shapeCasts_S8192x4608_S2x4096x4608)
    slices_S2x4096x4608_S2x4096x1024_0_0_0) shapeCasts_S2x4096x1024_S2x4096x8x128) shapeCasts_S2x4096x8x128_S2x32x128x2x4x128

/-- The keys. -/
def KEY (a0 : FVec Ideal S8192x4608 .f32) : FVec Ideal S2x4096x2x128 .f32 :=
  shapeCast S2x4096x2x128 (extractStridedSlice S2x4096x256 ![0, 0, 1024] (shapeCast S2x4096x4608 a0 shapeCasts_S8192x4608_S2x4096x4608)
    slices_S2x4096x4608_S2x4096x256_0_0_1024) shapeCasts_S2x4096x256_S2x4096x2x128

/-- The values. -/
def VAL (a0 : FVec Ideal S8192x4608 .f32) : FVec Ideal S2x4096x2x128 .f32 :=
  shapeCast S2x4096x2x128 (extractStridedSlice S2x4096x256 ![0, 0, 1280] (shapeCast S2x4096x4608 a0 shapeCasts_S8192x4608_S2x4096x4608)
    slices_S2x4096x4608_S2x4096x256_0_0_1280) shapeCasts_S2x4096x256_S2x4096x2x128

/-- Every query against every key of its band. -/
def DOT (K : FVec Ideal S2x32x384x2x128 .f32) (Q : FVec Ideal S2x32x128x2x4x128 .f32) : FVec Ideal S2x32x2x4x128x384 .f32 :=
  transpose S2x32x2x4x128x384 [0, 1, 2, 5, 4, 3] (Host.dotGeneral dot_S2x32x384x2x128_S2x32x128x2x4x128_S2x32x2x384x128x4_4_5_2_24_013_013 none K Q)
    transposes_S2x32x2x384x128x4_S2x32x2x4x128x384_0_1_2_5_4_3

/-- The scores: scaled, biased and masked. -/
def SCORE (D : FVec Ideal S2x32x2x4x128x384 .f32) (B : FVec Ideal S2x4x128x384 .f32) : FVec Ideal S2x32x2x4x128x384 .f32 :=
  select (broadcastInDim S2x32x2x4x128x384 ![0, 1, 2, 3, 4, 5] bcast_S1x32x1x1x128x384_S2x32x2x4x128x384_0_1_2_3_4_5 MASK)
    (addf (Host.divf D (broadcastInDim S2x32x2x4x128x384 ![] bcast_S_S2x32x2x4x128x384 (Host.sqrt (constant S_ .f32 0x43000000#32))))
      (broadcastInDim S2x32x2x4x128x384 ![0, 1, 2, 3, 4, 5] bcast_S1x1x2x4x128x384_S2x32x2x4x128x384_0_1_2_3_4_5
        (broadcastInDim S1x1x2x4x128x384 ![2, 3, 4, 5] bcast_S2x4x128x384_S1x1x2x4x128x384_2_3_4_5 B)))
    (broadcastInDim S2x32x2x4x128x384 ![] bcast_S_S2x32x2x4x128x384 (id (constant S_ .f32 0xFF800000#32)))

/-- The attention of the projections, the bias table and the sink logits. -/
def REF (a0 : FVec Ideal S8192x4608 .f32) (a1 : FVec Ideal S32x8 .f32) (a2 : FVec Ideal S1x8 .f32) : FVec Ideal S8192x1024 .f32 :=
  TAIL (PROB (SCORE (DOT (BAND3 (PADDED (KEY a0))) (QRY a0)) (BIAS a1)) (SINK a2)) (BAND3 (PADDED (VAL a0)))

theorem res_eq (m : (ℓ : Loc nD τ sig) → Buf (Elt Ideal) ℓ) (c : Dev nD) :
    Cert.ReferenceIdeal.Value.res_main_v117 m c = REF (m ((c.tc : Thread nD τ).loc main_arg0)) (m ((c.tc : Thread nD τ).loc main_arg1)) (m ((c.tc : Thread nD τ).loc main_arg2)) := by
  unfold Cert.ReferenceIdeal.Value.res_main_v117
  rfl

/-! ## Entries -/

/-- A row of the bias table, by the number its start index names. -/
theorem gather_at (x : FVec Ideal S32x8 .f32) (idx : IVec S128x384x1 32) (q : Fin 128) (k : Fin 384) (h : Fin 8) (b : Fin 32)
    (hb : idx (ix3 q k (0 : Fin 1)) = BitVec.ofNat 32 b.val) :
    Host.gather gather_S32x8_S128x384x1_S128x384x8_2_0_n_n_0_2_18 x idx (ix3 q k h) = x (ix2 b h) := by
  unfold Host.gather
  refine congrArg x (funext fun a => Fin.ext ?_)
  match a with
  | ⟨0, _⟩ =>
    show GatherDims.start _ _ idx 0 + GatherDims.batchCoord _ _ 0 + GatherDims.offCoord _ _ 0 = b.val
    rw [GatherDims.batchCoord_eq_zero _ _ _ List.not_mem_nil, GatherDims.offCoord_eq_zero _ _ _ (by decide)]
    simp only [Nat.add_zero]
    unfold GatherDims.start
    rw [dif_pos (by decide)]
    have e : GatherDims.siIdx gather_S32x8_S128x384x1_S128x384x8_2_0_n_n_0_2_18 (ix3 q k h) ⟨List.idxOf (0 : Fin 2) [0], by decide⟩ = ix3 q k (0 : Fin 1) := by
      funext c
      refine Fin.ext ?_
      match c with
      | ⟨0, _⟩ => rfl
      | ⟨1, _⟩ => rfl
      | ⟨2, _⟩ => rfl
    refine (congrArg (fun i => min (idx i).toInt.toNat 31) e).trans ?_
    show min (idx (ix3 q k (0 : Fin 1))).toInt.toNat 31 = b.val
    have hl := b.isLt
    rw [hb, BitVec.toInt_eq_toNat_cond, BitVec.toNat_ofNat]
    split <;> omega
  | ⟨1, _⟩ =>
    show GatherDims.start _ _ idx 1 + GatherDims.batchCoord _ _ 1 + GatherDims.offCoord _ _ 1 = h.val
    rw [GatherDims.batchCoord_eq_zero _ _ _ List.not_mem_nil]
    unfold GatherDims.start
    rw [dif_neg (by decide)]
    unfold GatherDims.offCoord
    rw [dif_pos (by decide)]
    simp only [Nat.zero_add]
    rfl

open Cert.Soft (Band bandw relw bucketw large)

theorem mask_at (n : Fin 32) (q : Fin 128) (k : Fin 384) : MASK (ix6 0 n 0 0 q k) = bandw n.val q.val k.val := by
  pointwise [MASK, KABS, REL]

theorem bucket_at (q : Fin 128) (k : Fin 384) : BUCKET (ix2 q k) = bucketw (relw q.val k.val) := by
  pointwise [BUCKET, LARGE, REL]
  rfl

theorem padded_at (z : FVec Ideal S2x4096x2x128 .f32) (b : Fin 2) (n : Fin 34) (k : Fin 128) (g : Fin 2) (d : Fin 128) :
    PADDED z (ix5 b n k g d) = if h : 128 ≤ n.val * 128 + k.val ∧ n.val * 128 + k.val < 4224
      then z (ix4 b ⟨n.val * 128 + k.val - 128, by omega⟩ g d) else 0 := by
  have e : PADDED z (ix5 b n k g d) = if h : 128 ≤ n.val * 128 + k.val ∧ n.val * 128 + k.val - 128 < 4096
      then z (ix4 b ⟨n.val * 128 + k.val - 128, by omega⟩ g d) else (FloatOps.sitofp (F := Ideal) FTy.f32 0#32) := by pointwise [PADDED]
  rw [e]
  by_cases h : 128 ≤ n.val * 128 + k.val ∧ n.val * 128 + k.val < 4224
  · rw [dif_pos (by omega), dif_pos h]
  · rw [dif_neg (by omega), dif_neg h]
    show (((0#32 : BitVec 32).toInt : ℝ) : EReal) = 0
    norm_num

/-- A key or value of a block's band: the sequence's own, or nought outside the sequence. -/
theorem win_at (z : FVec Ideal S2x4096x2x128 .f32) (b : Fin 2) (n : Fin 32) (k : Fin 384) (g : Fin 2) (d : Fin 128) :
    BAND3 (PADDED z) (ix5 b n k g d) = if h : 128 ≤ n.val * 128 + k.val ∧ n.val * 128 + k.val < 4224
      then z (ix4 b ⟨n.val * 128 + k.val - 128, by omega⟩ g d) else 0 := by
  have e : BAND3 (PADDED z) (ix5 b n k g d) = PADDED z (ix5 b ⟨n.val + k.val / 128, by omega⟩ ⟨k.val % 128, by omega⟩ g d) := by
    generalize PADDED z = w
    have e0 : BAND3 w (ix5 b n k g d) = if h : k.val < 128 then w (ix5 b ⟨n.val, by omega⟩ ⟨k.val, h⟩ g d)
        else if h' : k.val - 128 < 128 then w (ix5 b ⟨1 + n.val, by omega⟩ ⟨k.val - 128, h'⟩ g d)
        else w (ix5 b ⟨2 + n.val, by omega⟩ ⟨k.val - 128 - 128, by omega⟩ g d) := by pointwise [BAND3]
    rw [e0]
    by_cases h : k.val < 128
    · rw [dif_pos h]; exact congrArg₂ (fun u v => w (ix5 b u v g d)) (Fin.ext (by show n.val = n.val + k.val / 128; omega)) (Fin.ext (by show k.val = k.val % 128; omega))
    · rw [dif_neg h]
      by_cases h' : k.val - 128 < 128
      · rw [dif_pos h']; exact congrArg₂ (fun u v => w (ix5 b u v g d)) (Fin.ext (by show 1 + n.val = n.val + k.val / 128; omega)) (Fin.ext (by show k.val - 128 = k.val % 128; omega))
      · rw [dif_neg h']; exact congrArg₂ (fun u v => w (ix5 b u v g d)) (Fin.ext (by show 2 + n.val = n.val + k.val / 128; omega)) (Fin.ext (by show k.val - 128 - 128 = k.val % 128; omega))
  rw [e, padded_at]
  by_cases h : 128 ≤ n.val * 128 + k.val ∧ n.val * 128 + k.val < 4224
  · rw [dif_pos (show 128 ≤ (n.val + k.val / 128) * 128 + k.val % 128 ∧ (n.val + k.val / 128) * 128 + k.val % 128 < 4224 by omega), dif_pos h]
    congr 2
    exact Fin.ext (by show (n.val + k.val / 128) * 128 + k.val % 128 - 128 = n.val * 128 + k.val - 128; omega)
  · rw [dif_neg (show ¬(128 ≤ (n.val + k.val / 128) * 128 + k.val % 128 ∧ (n.val + k.val / 128) * 128 + k.val % 128 < 4224) by omega), dif_neg h]

theorem qry_at (a0 : FVec Ideal S8192x4608 .f32) (b : Fin 2) (n : Fin 32) (q : Fin 128) (g : Fin 2) (j : Fin 4) (d : Fin 128) :
    QRY a0 (ix6 b n q g j d) = a0 (ix2 ⟨b.val * 4096 + n.val * 128 + q.val, by omega⟩ ⟨g.val * 512 + j.val * 128 + d.val, by omega⟩) := by
  pointwise [QRY]
  blk_ext

theorem key_at (a0 : FVec Ideal S8192x4608 .f32) (b : Fin 2) (s : Fin 4096) (g : Fin 2) (d : Fin 128) :
    KEY a0 (ix4 b s g d) = a0 (ix2 ⟨b.val * 4096 + s.val, by omega⟩ ⟨1024 + g.val * 128 + d.val, by omega⟩) := by
  pointwise [KEY]
  blk_ext

theorem val_at (a0 : FVec Ideal S8192x4608 .f32) (b : Fin 2) (s : Fin 4096) (g : Fin 2) (d : Fin 128) :
    VAL a0 (ix4 b s g d) = a0 (ix2 ⟨b.val * 4096 + s.val, by omega⟩ ⟨1280 + g.val * 128 + d.val, by omega⟩) := by
  pointwise [VAL]
  blk_ext

theorem dot_at (K : FVec Ideal S2x32x384x2x128 .f32) (Q : FVec Ideal S2x32x128x2x4x128 .f32) (b : Fin 2) (n : Fin 32) (g : Fin 2) (j : Fin 4) (q : Fin 128) (k : Fin 384) :
    DOT K Q (ix6 b n g j q k) = ∑ d, K (ix5 b n k g d) * Q (ix6 b n q g j d) := by
  pointwise [DOT]

theorem score_at (D : FVec Ideal S2x32x2x4x128x384 .f32) (B : FVec Ideal S2x4x128x384 .f32) (b : Fin 2) (n : Fin 32) (g : Fin 2) (j : Fin 4) (q : Fin 128) (k : Fin 384) :
    SCORE D B (ix6 b n g j q k)
      = if Band n.val q.val k.val then D (ix6 b n g j q k) * (((Real.sqrt 128)⁻¹ : ℝ) : EReal) + B (ix4 g j q k) else ⊥ := by
  have e : SCORE D B (ix6 b n g j q k) = Scalar.select (MASK (ix6 0 n 0 0 q k))
      (Ideal.div (D (ix6 b n g j q k)) (Ideal.sqrt (Ideal.ofBits FTy.f32 0x43000000#32)) + B (ix4 g j q k)) (Ideal.ofBits FTy.f32 0xFF800000#32) := by
    unfold SCORE
    generalize MASK = M
    pointwise
    rfl
  rw [e, mask_at, Cert.Soft.select_band _ _ _ n.isLt q.isLt k.isLt, Cert.Soft.ofBits_neg_inf, Cert.Soft.ofBits_128, Ideal.sqrt_coe, if_neg (show ¬(128 : ℝ) < 0 by norm_num),
    Ideal.div_coe (Real.sqrt_pos.mpr (by norm_num)).ne', one_div]

/-- The bias of a pair is the row of the table that the pair's bucket names. -/
theorem bias_at (a1 : FVec Ideal S32x8 .f32) (g : Fin 2) (j : Fin 4) (q : Fin 128) (k : Fin 384) (b : Fin 32) (hb : BUCKET (ix2 q k) = BitVec.ofNat 32 b.val) :
    BIAS a1 (ix4 g j q k) = a1 (ix2 b ⟨g.val * 4 + j.val, by omega⟩) := by
  unfold BIAS
  generalize BUCKET = B at hb
  pointwise
  refine gather_at a1 _ q k _ b ?_
  have e : (broadcastInDim S128x384x1 ![0, 1] bcast_S128x384_S128x384x1_0_1 (select (cmpi CmpIPredicate.slt B (ALLI 0#32)) (addi B (ALLI 32#32)) B)) (ix3 q k (0 : Fin 1))
      = Scalar.select (IntOp.cmpi .slt (B (ix2 q k)) 0#32) (IntOp.addi (B (ix2 q k)) 32#32) (B (ix2 q k)) := by pointwise
  rw [e, hb]
  have hl := b.isLt
  have hn : IntOp.cmpi .slt (BitVec.ofNat 32 b.val) 0#32 = 0#1 := by
    show BitVec.ofBool (BitVec.slt _ _) = _
    rw [BitVec.slt_eq_decide, show (0#32 : BitVec 32).toInt = 0 from by decide, BitVec.toInt_eq_toNat_cond, BitVec.toNat_ofNat, decide_eq_false (by split <;> omega)]
    rfl
  rw [hn]
  exact if_neg (by decide)

end Cert.ReferenceIdeal.Attn

end
-- ==== Proof.KerHost.lean ====
/-
  The attention kernel's host code: the one-hot table of the buckets, its product with the bias table, which is a look-up, and the
  arrays the call is given.
-/
module

public import proofs.«01_k».proof.Proof.Gen.KernelIdeal.Value
public import proofs.«01_k».proof.Proof.RefAttn

@[expose] public section

set_option maxRecDepth 16384

noncomputable section

open Idealize.ShloMosaic Idealize.ShloMosaic.TcCoe Idealize.SL.Sem

namespace Cert.KernelIdeal.Attn

open Cert.KernelIdeal Cert.KernelIdeal.Gen Cert.KernelIdeal.Value

/-- The bucket of every pair as a one-hot row. -/
def HOT (B : IVec S128x384 32) : FVec Ideal S128x384x32 .f32 :=
  uitofp .f32 (cmpi .eq (broadcastInDim S128x384x32 ![0, 1, 2] bcast_S128x384x1_S128x384x32_0_1_2 (broadcastInDim S128x384x1 ![0, 1] bcast_S128x384_S128x384x1_0_1 B))
    (broadcastInDim S128x384x32 ![0, 1, 2] bcast_S1x1x32_S128x384x32_0_1_2 (broadcastInDim S1x1x32 ![2] bcast_S32_S1x1x32_2 (iotaInDim S32 32 0))))

/-- The bias table multiplied into the one-hot rows. -/
def HBIAS (a1 : FVec Ideal S32x8 .f32) (H : FVec Ideal S128x384x32 .f32) : FVec Ideal S8x128x384 .f32 :=
  Host.dotGeneral dot_S32x8_S128x384x32_S8x128x384_0_2_1_01_n_n (some .fp32) a1 H

theorem hot_at (B : IVec S128x384 32) (q : Fin 128) (k : Fin 384) (b : Fin 32) : HOT B (ix3 q k b) = if B (ix2 q k) = BitVec.ofNat 32 b then 1 else 0 := by
  have e : HOT B (ix3 q k b) = FloatOps.uitofp (F := Ideal) FTy.f32 (IntOp.cmpi CmpIPredicate.eq (B (ix2 q k)) (BitVec.ofNat 32 b.val)) := by pointwise [HOT]
  rw [e]
  show (((BitVec.ofBool (B (ix2 q k) == BitVec.ofNat 32 b.val)).toNat : ℝ) : EReal) = _
  by_cases h : B (ix2 q k) = BitVec.ofNat 32 b.val
  · rw [if_pos h, beq_iff_eq.2 h]; show (((1 : ℕ) : ℝ) : EReal) = 1; norm_num
  · rw [if_neg h, beq_eq_false_iff_ne.2 h]; show (((0 : ℕ) : ℝ) : EReal) = 0; norm_num

theorem hbias_at (a1 : FVec Ideal S32x8 .f32) (H : FVec Ideal S128x384x32 .f32) (h : Fin 8) (q : Fin 128) (k : Fin 384) :
    HBIAS a1 H (ix3 h q k) = ∑ b, a1 (ix2 b h) * H (ix3 q k b) := by
  pointwise [HBIAS]

/-- The one-hot product picks the row of the table that the pair's bucket names. -/
theorem hbias_row (a1 : FVec Ideal S32x8 .f32) (B : IVec S128x384 32) (h : Fin 8) (q : Fin 128) (k : Fin 384) (b : Fin 32) (hb : B (ix2 q k) = BitVec.ofNat 32 b.val) :
    HBIAS a1 (HOT B) (ix3 h q k) = a1 (ix2 b h) := by
  rw [hbias_at, Finset.sum_eq_single b]
  · rw [hot_at, if_pos hb, mul_one]
  · intro b' _ hne
    rw [hot_at, if_neg, mul_zero]
    rw [hb]
    intro h'
    refine hne (Fin.ext ?_)
    have h2 := congrArg BitVec.toNat h'
    have hl := b.isLt
    have hl' := b'.isLt
    rw [BitVec.toNat_ofNat, BitVec.toNat_ofNat] at h2
    omega
  · intro h'; exact absurd (Finset.mem_univ b) h'

variable (m : (ℓ : Loc nD τ sig) → Buf (Elt Ideal) ℓ) (c : Dev nD)

/-- The sink logits, as the call is given them. -/
theorem V_sink : V m c main_v42 = shapeCast S8 (m ((c.tc : Thread nD τ).loc main_arg2)) shapeCasts_S1x8_S8 := by
  entry_read
  rfl

/-- The biases, as the call is given them. -/
theorem V_bias : V m c main_v41 = HBIAS (m ((c.tc : Thread nD τ).loc main_arg1)) (HOT Cert.ReferenceIdeal.Attn.BUCKET) := by
  entry_read
  rfl

end Cert.KernelIdeal.Attn
end
-- ==== Proof.KerRow.lean ====
/-
  One group of heads at one grid point of the attention kernel: its scores, its sink logits and its softmax are the stages of the
  shared softmax, with the group's four heads stacked as 512 rows; and the band of keys or values is three blocks one after another.
-/
module

public import proofs.«01_k».proof.Proof.Gen.KernelIdeal.Value
public import proofs.«01_k».proof.Proof.Soft
public import proofs.«01_k».proof.Proof.Words

@[expose] public section

set_option maxRecDepth 16384

noncomputable section

open Idealize.ShloMosaic Idealize.ShloMosaic.TcCoe Idealize.SL.Sem

namespace Cert.KernelIdeal.Attn

open Cert.KernelIdeal Cert.KernelIdeal.Gen
open Cert.KernelIdeal.Soft (TAIL)
open Cert.Soft (Band bandw relw)

/-- The block's number in its sequence: the grid point's remainder by 32, as the kernel computes it. -/
theorem block_word : ∀ t : Fin 64,
    (Scalar.select (Scalar.andi (Scalar.xori (Scalar.cmpi CmpIPredicate.slt (Scalar.remsi (BitVec.ofNat 32 t.val) (Scalar.select (Scalar.cmpi CmpIPredicate.eq 32#32 0#32) 1#32 32#32)) 0#32)
        (Scalar.cmpi CmpIPredicate.slt (Scalar.select (Scalar.cmpi CmpIPredicate.eq 32#32 0#32) 1#32 32#32) 0#32))
        (Scalar.cmpi CmpIPredicate.ne (Scalar.remsi (BitVec.ofNat 32 t.val) (Scalar.select (Scalar.cmpi CmpIPredicate.eq 32#32 0#32) 1#32 32#32)) 0#32))
      (Scalar.addi (Scalar.remsi (BitVec.ofNat 32 t.val) (Scalar.select (Scalar.cmpi CmpIPredicate.eq 32#32 0#32) 1#32 32#32)) (Scalar.select (Scalar.cmpi CmpIPredicate.eq 32#32 0#32) 1#32 32#32))
      (Scalar.remsi (BitVec.ofNat 32 t.val) (Scalar.select (Scalar.cmpi CmpIPredicate.eq 32#32 0#32) 1#32 32#32)) : BitVec 32) = BitVec.ofNat 32 (t.val % 32) := by
  decide +kernel

theorem row_word : ∀ r : Fin 512, IntOp.andi (BitVec.ofNat 32 r.val) 127#32 = BitVec.ofNat 32 (r.val % 128) := by decide +kernel

theorem mask_at (i : grid0.Coords) (r : Fin 512) (k : Fin 384) : k0_pay1 i (ix2 r k) = bandw ((i 0).val % 32) (r.val % 128) k.val := by
  pointwise [k0_pay1]
  rw [row_word r]
  refine Eq.trans ?_ (congrArg (fun w : BitVec 32 => IntOp.andi (IntOp.andi (IntOp.cmpi .sle (IntOp.absi (relw (r.val % 128) k.val)) 128#32)
    (IntOp.cmpi .sge (IntOp.subi (IntOp.addi (IntOp.muli w 128#32) (BitVec.ofNat 32 k.val)) 128#32) 0#32))
    (IntOp.cmpi .slt (IntOp.subi (IntOp.addi (IntOp.muli w 128#32) (BitVec.ofNat 32 k.val)) 128#32) 4096#32)) (block_word (i 0)))
  rfl

/-- Which of its group's four query heads a row belongs to, as a word. -/
abbrev HEADS : IVec S512x1 32 := k0_pay4 (iota .tc S512x1 32 [0] iota_S512x1_d0_w32) 128#32 k0_pay2 k0_pay3 1#1

theorem head_word : ∀ r : Fin 512, (Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui 1#1) (Scalar.extui (Scalar.cmpi CmpIPredicate.slt 128#32 0#32))))
        (IntOp.cmpi CmpIPredicate.ne (IntOp.remsi ArithUnit.vector (BitVec.ofNat 32 r.val) 128#32) 0#32))
      (IntOp.subi (IntOp.divsi ArithUnit.vector (BitVec.ofNat 32 r.val) 128#32) 1#32)
      (IntOp.divsi ArithUnit.vector (BitVec.ofNat 32 r.val) 128#32) : BitVec 32) =
    BitVec.ofNat 32 (r.val / 128) := by decide +kernel

theorem heads_at (r : Fin 512) : HEADS (ix2 r 0) = BitVec.ofNat 32 (r.val / 128) := by
  pointwise [HEADS, k0_pay4, k0_pay2, k0_pay3]
  exact head_word r

/-- The sink logit of every row. -/
abbrev SINKS (w : IVec S512x1 32) (s : Fin 4 → EReal) : FVec Ideal S512x1 .f32 :=
  select (cmpi .eq w (broadcast S512x1 3#32)) (broadcast S512x1 (s 3)) (select (cmpi .eq w (broadcast S512x1 2#32)) (broadcast S512x1 (s 2))
    (select (cmpi .eq w (broadcast S512x1 1#32)) (broadcast S512x1 (s 1)) (select (cmpi .eq w (broadcast S512x1 0#32)) (broadcast S512x1 (s 0)) (broadcast S512x1 (Scalar.ofBits (F := Ideal) .f32 0x00000000#32)))))

theorem sinks_at (w : IVec S512x1 32) (s : Fin 4 → EReal) (r : Fin 512) (j : Fin 4) (h : w (ix2 r 0) = BitVec.ofNat 32 j.val) :
    SINKS w s (ix2 r 0) = s j := by
  pointwise
  rw [h]
  fin_cases j <;> rfl

/-- The scores of a group: scaled, biased, masked. -/
abbrev SCORES (M : IVec S512x384 1) (D : FVec Ideal S512x384 .f32) (B : FVec Ideal S4x128x384 .f32) : FVec Ideal S512x384 .f32 :=
  select M (addf D (shapeCast S512x384 (shapeCast S4x128x384 B shapeCasts_S4x128x384_S4x128x384) shapeCasts_S4x128x384_S512x384)) (broadcast S512x384 (Named.named (F := Ideal) κ "mask" 0xF149F2CA#32))

theorem mask_named : Named.named (F := Ideal) κ "mask" (φ := .f32) 0xF149F2CA#32 = (⊥ : EReal) := IdealRules.named_const.ideal_named_scalar _ _ _ _ rfl

theorem scale_named : Named.named (F := Ideal) κ "scale" (φ := .f32) 0x3DB504F3#32 = (((Real.sqrt 128)⁻¹ : ℝ) : EReal) := IdealRules.named_const.ideal_named_scalar _ _ _ _ rfl

theorem scores_at (i : grid0.Coords) (D : FVec Ideal S512x384 .f32) (B : FVec Ideal S4x128x384 .f32) (r : Fin 512) (k : Fin 384) :
    SCORES (k0_pay1 i) D B (ix2 r k) = if Band ((i 0).val % 32) (r.val % 128) k.val
      then D (ix2 r k) + B (ix3 ⟨r.val / 128, by omega⟩ ⟨r.val % 128, by omega⟩ k) else ⊥ := by
  have e : ∀ M, SCORES M D B (ix2 r k) = Scalar.select (M (ix2 r k)) (D (ix2 r k) + B (ix3 ⟨r.val / 128, by omega⟩ ⟨r.val % 128, by omega⟩ k))
      (Named.named (F := Ideal) κ "mask" (φ := .f32) 0xF149F2CA#32) := by
    intro M
    pointwise
  rw [e, mask_at, Cert.Soft.select_band _ _ _ (by omega) (by omega) k.isLt, mask_named]

/-- Four heads' queries under each other, against the keys, scaled. -/
abbrev DOTS (q : Fin 4 → FVec Ideal S128x128 .f32) (W : FVec Ideal S384x128 .bf16) : FVec Ideal S512x384 .f32 :=
  mulf (matmul dot_S512x128_S384x128_S512x384_1_1_0_0_n_n none (truncf .bf16 (concatenate S512x128 0 [⟨S128x128, q 0⟩, ⟨S128x128, q 1⟩, ⟨S128x128, q 2⟩, ⟨S128x128, q 3⟩]
    concatenates_S128x128_S128x128_S128x128_S128x128_S512x128_d0 : FVec Ideal S512x128 .f32) bitsLt_bf16_f32) W (constant S512x384 .f32 0x00000000#32)) (broadcast S512x384 (Named.named (F := Ideal) κ "scale" 0x3DB504F3#32))

theorem dots_at (q : Fin 4 → FVec Ideal S128x128 .f32) (W : FVec Ideal S384x128 .bf16) (r : Fin 512) (k : Fin 384) :
    DOTS q W (ix2 r k) = (∑ x, q ⟨r.val / 128, by omega⟩ (ix2 ⟨r.val % 128, by omega⟩ x) * W (ix2 k x)) * (((Real.sqrt 128)⁻¹ : ℝ) : EReal) := by
  have e : DOTS q W (ix2 r k) = (∑ x : Fin 128,
        (if h : r.val < 128 then q 0 (ix2 ⟨r.val, h⟩ x)
          else if h' : r.val - 128 < 128 then q 1 (ix2 ⟨r.val - 128, h'⟩ x)
            else if h'' : r.val - 128 - 128 < 128 then q 2 (ix2 ⟨r.val - 128 - 128, h''⟩ x)
              else q 3 (ix2 ⟨r.val - 128 - 128 - 128, by omega⟩ x)) * W (ix2 k x)) * Named.named (F := Ideal) κ "scale" (φ := .f32) 0x3DB504F3#32 := by pointwise
  rw [e, scale_named]
  refine congrArg (· * _) (Finset.sum_congr rfl fun x _ => congrArg (· * _) ?_)
  have key : ∀ (j : Fin 4) (y : Fin 128), j.val = r.val / 128 → y.val = r.val % 128 →
      q j (ix2 y x) = q ⟨r.val / 128, by omega⟩ (ix2 ⟨r.val % 128, by omega⟩ x) :=
    fun j y hj hy => congrArg₂ (fun a b => q a (ix2 b x)) (Fin.ext hj) (Fin.ext hy)
  split
  · exact key 0 _ (by show 0 = _; omega) (by show r.val = _; omega)
  split
  · exact key 1 _ (by show 1 = _; omega) (by show r.val - 128 = _; omega)
  split
  · exact key 2 _ (by show 2 = _; omega) (by show r.val - 128 - 128 = _; omega)
  · exact key 3 _ (by show 3 = _; omega) (by show r.val - 128 - 128 - 128 = _; omega)

variable (X Y Z : Vec Ideal S128x256 .f32) (M : IVec S512x384 1) (w : IVec S512x1 32) (W : FVec Ideal S384x128 .bf16) (B : Vec Ideal S4x128x384 .f32)

/-- The first group of heads. -/
theorem pay9_eq (q : Fin 4 → FVec Ideal S128x128 .f32) (s : Fin 4 → EReal) :
    k0_pay9 M w W (k0_pay8 X Y Z (q 0) (q 1) (q 2) (q 3)) B (s 0) (s 1) (s 2) (s 3)
      = TAIL (SCORES M (DOTS q (extractStridedSlice S384x128 ![0, 0] (k0_pay5 X Y Z) slices_S384x256_o0_0_S384x128)) B) (SINKS w s) W := rfl

/-- The second group of heads. -/
theorem pay18_eq (q : Fin 4 → FVec Ideal S128x128 .f32) (s : Fin 4 → EReal) :
    k0_pay18 w W (k0_pay15 M (k0_pay5 X Y Z) (q 0) (q 1) (q 2) (q 3) B) (k0_pay16 w (s 0)) k0_pay17 (s 1) (s 2) (s 3)
      = TAIL (SCORES M (DOTS q (extractStridedSlice S384x128 ![0, 128] (k0_pay5 X Y Z) slices_S384x256_o0_128_S384x128)) B) (SINKS w s) W := rfl

/-- The keys (or values) a block's queries meet: the previous block's, its own, the next block's. -/
abbrev three (X Y Z : Vec Ideal S128x256 .f32) (k : Fin 384) (e : Fin 256) : EReal :=
  if h : k.val < 128 then X (ix2 ⟨k.val, h⟩ e) else if h' : k.val < 256 then Y (ix2 ⟨k.val - 128, by omega⟩ e) else Z (ix2 ⟨k.val - 256, by omega⟩ e)

theorem rows_at (k : Fin 384) (e : Fin 256) : k0_pay5 X Y Z (ix2 k e) = three X Y Z k e := by
  have e0 : k0_pay5 X Y Z (ix2 k e) = if h : k.val < 128 then X (ix2 ⟨k.val, h⟩ e)
      else if h' : k.val - 128 < 128 then Y (ix2 ⟨k.val - 128, h'⟩ e) else Z (ix2 ⟨k.val - 128 - 128, by omega⟩ e) := by pointwise [k0_pay5]
  rw [e0]
  unfold three
  by_cases h : k.val < 128
  · rw [dif_pos h, dif_pos h]
  · rw [dif_neg h, dif_neg h]
    by_cases h' : k.val < 256
    · rw [dif_pos h', dif_pos (by omega)]
    · rw [dif_neg h', dif_neg (by omega)]
      exact congrArg (fun a => Z (ix2 a e)) (Fin.ext (by show k.val - 128 - 128 = k.val - 256; omega))

/-- One entry of a group's four heads: the softmax of the row's scores, times the values. -/
theorem group_at (i : grid0.Coords) (q : Fin 4 → FVec Ideal S128x128 .f32) (s : Fin 4 → EReal) (K V : FVec Ideal S384x128 .bf16) (r : Fin 512) (d : Fin 128) :
    TAIL (SCORES (k0_pay1 i) (DOTS q K) B) (SINKS HEADS s) V (ix2 r d)
      = Cert.Soft.mix (fun k => if Band ((i 0).val % 32) (r.val % 128) k.val
          then (∑ x, q ⟨r.val / 128, by omega⟩ (ix2 ⟨r.val % 128, by omega⟩ x) * K (ix2 k x)) * (((Real.sqrt 128)⁻¹ : ℝ) : EReal)
            + B (ix3 ⟨r.val / 128, by omega⟩ ⟨r.val % 128, by omega⟩ k) else ⊥) (s ⟨r.val / 128, by omega⟩) (fun k => V (ix2 k d)) := by
  rw [Cert.KernelIdeal.Soft.tail_at, sinks_at HEADS s r ⟨r.val / 128, by omega⟩ (heads_at r)]
  congr 1
  funext k
  rw [scores_at, dots_at]

end Cert.KernelIdeal.Attn
end
-- ==== Proof.AttnEq.lean ====
/-
  A row of the kernel's softmax and the reference's entry are one value: the same scores, the same sink logit, and the same values
  wherever a score is not masked. Where the band leaves the sequence the kernel's values repeat its own block's and the reference's are
  nought; every such key is masked.
-/
module

public import proofs.«01_k».proof.Proof.RefAttn
public import proofs.«01_k».proof.Proof.KerHost
public import proofs.«01_k».proof.Proof.KerRow

@[expose] public section

set_option maxRecDepth 16384

noncomputable section

open Idealize.ShloMosaic Idealize.ShloMosaic.TcCoe Idealize.SL.Sem

namespace Cert.KernelIdeal.Attn

open Cert.KernelIdeal Cert.KernelIdeal.Gen
open Cert.KernelIdeal.Soft (TAIL)
open Cert.Soft (Band bandw relw)
open Cert.ReferenceIdeal.Attn (REF BUCKET)

/-- The row of the projections that holds the `k`-th key of block `t`'s band, clamped to the sequence's own blocks. -/
def row (t : Fin 64) (k : Fin 384) : Fin 8192 :=
  ⟨if k.val < 128 then (t.val - if t.val % 32 = 0 then 0 else 1) * 128 + k.val
    else if k.val < 256 then t.val * 128 + (k.val - 128) else (t.val + if t.val % 32 = 31 then 0 else 1) * 128 + (k.val - 256), by
    have := t.isLt; have := k.isLt
    split
    · split <;> omega
    · split
      · omega
      · split <;> omega⟩

/-- The key that a repeated one repeats. -/
def partner (k : Fin 384) : Fin 384 := ⟨if k.val < 128 then k.val + 128 else k.val - 128, by split <;> omega⟩

theorem row_partner (t : Fin 64) (k : Fin 384) (h : ¬(128 ≤ t.val % 32 * 128 + k.val ∧ t.val % 32 * 128 + k.val < 4224)) :
    (128 ≤ t.val % 32 * 128 + (partner k).val ∧ t.val % 32 * 128 + (partner k).val < 4224) ∧ row t k = row t (partner k) := by
  have ht := t.isLt; have hk := k.isLt
  by_cases c : k.val < 128
  · have e : (partner k).val = k.val + 128 := by unfold partner; simp only [if_pos c]
    have z : t.val % 32 = 0 := by omega
    refine ⟨by omega, Fin.ext ?_⟩
    unfold row
    simp only [e, if_pos c, if_pos z]
    rw [if_neg (by omega), if_pos (by omega)]; omega
  · have e : (partner k).val = k.val - 128 := by unfold partner; simp only [if_neg c]
    have z : t.val % 32 = 31 := by omega
    refine ⟨by omega, Fin.ext ?_⟩
    unfold row
    simp only [e, if_neg c, if_pos z]
    rw [if_neg (by omega), if_neg (by omega), if_pos (by omega)]; omega

theorem row_inside (t : Fin 64) (k : Fin 384) (h : 128 ≤ t.val % 32 * 128 + k.val ∧ t.val % 32 * 128 + k.val < 4224) :
    (row t k).val = t.val / 32 * 4096 + (t.val % 32 * 128 + k.val - 128) := by
  have ht := t.isLt; have hk := k.isLt
  unfold row
  dsimp only
  split
  · split <;> omega
  · split
    · omega
    · split <;> omega

theorem sink_ref (a2 : FVec Ideal S1x8 .f32) (g : Fin 2) (j : Fin 4) :
    Cert.ReferenceIdeal.Soft.SINK a2 (ix6 0 0 g j 0 0) = a2 (ix2 0 ⟨g.val * 4 + j.val, by omega⟩) := by
  pointwise

variable (a0 : FVec Ideal S8192x4608 .f32) (a1 : FVec Ideal S32x8 .f32) (a2 : FVec Ideal S1x8 .f32)

/-- One entry of a group's four heads is the reference's. -/
theorem group_eq (t : Fin 64) (g : Fin 2) (i : grid0.Coords) (hi : (i 0).val = t.val) (q : Fin 4 → FVec Ideal S128x128 .f32) (s : Fin 4 → EReal) (K V : FVec Ideal S384x128 .bf16)
    (B : FVec Ideal S4x128x384 .f32)
    (hq : ∀ j y x, q j (ix2 y x) = a0 (ix2 ⟨t.val * 128 + y.val, by omega⟩ ⟨g.val * 512 + j.val * 128 + x.val, by omega⟩))
    (hs : ∀ j, s j = a2 (ix2 0 ⟨g.val * 4 + j.val, by omega⟩))
    (hK : ∀ k x, K (ix2 k x) = a0 (ix2 (row t k) ⟨1024 + g.val * 128 + x.val, by omega⟩))
    (hV : ∀ k x, V (ix2 k x) = a0 (ix2 (row t k) ⟨1280 + g.val * 128 + x.val, by omega⟩))
    (hB : ∀ j y k, B (ix3 j y k) = HBIAS a1 (HOT BUCKET) (ix3 ⟨g.val * 4 + j.val, by omega⟩ y k))
    (r : Fin 512) (d : Fin 128) (x : S8192x1024.Idx) (h0 : (x 0).val = t.val * 128 + r.val % 128) (h1 : (x 1).val = g.val * 512 + r.val / 128 * 128 + d.val) :
    TAIL (SCORES (k0_pay1 i) (DOTS q K) B) (SINKS HEADS s) V (ix2 r d) = REF a0 a1 a2 x := by
  have ht := t.isLt; have hr := r.isLt; have hd := d.isLt; have hg := g.isLt
  rw [group_at]
  unfold REF
  rw [Cert.ReferenceIdeal.Soft.tail_at _ _ _ x ⟨t.val / 32, by omega⟩ ⟨t.val % 32, by omega⟩ g ⟨r.val / 128, by omega⟩ ⟨r.val % 128, by omega⟩ d
    (by show t.val / 32 = _; rw [h0]; omega) (by show t.val % 32 = _; rw [h0]; omega) (by show r.val % 128 = _; rw [h0]; omega)
    (by show g.val = _; rw [h1]; omega) (by show r.val / 128 = _; rw [h1]; omega) (by show d.val = _; rw [h1]; omega), sink_ref, hs, hi]
  have es : ∀ k : Fin 384, (if Band (t.val % 32) (r.val % 128) k.val
          then (∑ x, q ⟨r.val / 128, by omega⟩ (ix2 ⟨r.val % 128, by omega⟩ x) * K (ix2 k x)) * (((Real.sqrt 128)⁻¹ : ℝ) : EReal)
            + B (ix3 ⟨r.val / 128, by omega⟩ ⟨r.val % 128, by omega⟩ k) else ⊥)
      = Cert.ReferenceIdeal.Attn.SCORE (Cert.ReferenceIdeal.Attn.DOT (Cert.ReferenceIdeal.Attn.BAND3 (Cert.ReferenceIdeal.Attn.PADDED (Cert.ReferenceIdeal.Attn.KEY a0))) (Cert.ReferenceIdeal.Attn.QRY a0)) (Cert.ReferenceIdeal.Attn.BIAS a1)
          (ix6 ⟨t.val / 32, by omega⟩ ⟨t.val % 32, by omega⟩ g ⟨r.val / 128, by omega⟩ ⟨r.val % 128, by omega⟩ k) := by
    intro k
    rw [Cert.ReferenceIdeal.Attn.score_at]
    by_cases hb : Band (t.val % 32) (r.val % 128) k.val
    · rw [if_pos hb, if_pos hb, hB]
      obtain ⟨b, eb⟩ := Cert.Soft.bucket_lt (r.val % 128) k.val (by omega) k.isLt
      have eb' : BUCKET (ix2 ⟨r.val % 128, by omega⟩ k) = BitVec.ofNat 32 b.val := (Cert.ReferenceIdeal.Attn.bucket_at _ _).trans eb
      rw [hbias_row a1 BUCKET _ _ _ b eb', Cert.ReferenceIdeal.Attn.bias_at a1 _ _ _ _ b eb', Cert.ReferenceIdeal.Attn.dot_at]
      refine congrArg (fun u => u * _ + _) (Finset.sum_congr rfl fun y _ => ?_)
      have hin := hb.2
      have hrow := row_inside t k hin
      rw [Cert.ReferenceIdeal.Attn.win_at, dif_pos hin, Cert.ReferenceIdeal.Attn.key_at, Cert.ReferenceIdeal.Attn.qry_at, hq, hK, mul_comm]
      refine congrArg₂ (fun u v => a0 (ix2 u _) * a0 (ix2 v _)) (Fin.ext hrow) (Fin.ext ?_)
      show t.val * 128 + r.val % 128 = t.val / 32 * 4096 + t.val % 32 * 128 + r.val % 128
      omega
    · rw [if_neg hb, if_neg hb]
  rw [funext es]
  refine Cert.Soft.mix_congr _ _ _ _ (fun k => ¬(128 ≤ t.val % 32 * 128 + k.val ∧ t.val % 32 * 128 + k.val < 4224)) partner (fun k hk => ?_) (fun k hk => ?_)
  · have hp := row_partner t k hk
    refine ⟨?_, ?_, not_not.2 hp.1, ?_⟩
    · rw [← es, if_neg (fun hb => hk hb.2)]
    · rw [Cert.ReferenceIdeal.Attn.win_at, dif_neg hk]
    · show V (ix2 k d) = V (ix2 (partner k) d)
      rw [hV, hV, hp.2]
  · have hin := not_not.1 hk
    have hrow := row_inside t k hin
    show V (ix2 k d) = _
    rw [hV, Cert.ReferenceIdeal.Attn.win_at, dif_pos hin, Cert.ReferenceIdeal.Attn.val_at]
    exact congrArg (fun u => a0 (ix2 u _)) (Fin.ext hrow)

end Cert.KernelIdeal.Attn

end
-- ==== Proof.AttnBlocks.lean ====
/-
  The windowed attention: what the kernel's blocks hold, and that the array it leaves is the reference's. Each of the 64 grid points
  takes one block of 128 queries of one sequence, for all eight heads, against the keys and values of the previous block, its own and
  the next; it stores eight tiles, one for each head.
-/
module

public import proofs.«01_k».proof.Proof.AttnEq
public import proofs.«01_k».proof.Defs
public import proofs.«01_k».proof.Proof.Gen.Kernel.Frame

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.KernelIdeal.Value
open Cert.ReferenceIdeal.Attn (REF BUCKET)

variable (m : (ℓ : Loc nD τ sig) → Buf (Elt Ideal) ℓ) (c : Dev nD)

/-- Where the windows' blocks lie at a point. -/
theorem idx : ∀ t : Fin cfg0.N, win0_0.index t = ![0] ∧ win0_1.index t = ![t.val, 0]
    ∧ win0_2.index t = ![t.val - (if t.val % 32 = 0 then 0 else 1), 4] ∧ win0_3.index t = ![t.val, 4] ∧ win0_4.index t = ![t.val + (if t.val % 32 = 31 then 0 else 1), 4]
    ∧ win0_5.index t = ![t.val - (if t.val % 32 = 0 then 0 else 1), 5] ∧ win0_6.index t = ![t.val, 5] ∧ win0_7.index t = ![t.val + (if t.val % 32 = 31 then 0 else 1), 5]
    ∧ win0_8.index t = ![0, 0, 0] ∧ win0_9.index t = ![t.val, 0] ∧ ((grid0.coords t) 0).val = t.val :=
  (by decide +kernel : ∀ t : Fin grid0.N, _)

/-- The keys of the block before. -/
theorem kprev_at (t : Fin cfg0.N) (i : S128x256.Idx) (j : S8192x4608.Idx)
    (h0 : (j 0).val = (t.val - if t.val % 32 = 0 then 0 else 1) * 128 + (i 0).val) (h1 : (j 1).val = 1024 + (i 1).val) : iblk m c 2 t i = m ((c.tc : Thread nD τ).loc main_arg0) j := by
  show m ((c.tc : Thread nD τ).loc main_arg0) (((cfg0.win 2).blk t).view.emb i) = _
  blk_ext [idx t]

/-- The keys of the own block. -/
theorem kown_at (t : Fin cfg0.N) (i : S128x256.Idx) (j : S8192x4608.Idx)
    (h0 : (j 0).val = t.val * 128 + (i 0).val) (h1 : (j 1).val = 1024 + (i 1).val) : iblk m c 3 t i = m ((c.tc : Thread nD τ).loc main_arg0) j := by
  show m ((c.tc : Thread nD τ).loc main_arg0) (((cfg0.win 3).blk t).view.emb i) = _
  blk_ext [idx t]

/-- The keys of the block after. -/
theorem knext_at (t : Fin cfg0.N) (i : S128x256.Idx) (j : S8192x4608.Idx)
    (h0 : (j 0).val = (t.val + if t.val % 32 = 31 then 0 else 1) * 128 + (i 0).val) (h1 : (j 1).val = 1024 + (i 1).val) : iblk m c 4 t i = m ((c.tc : Thread nD τ).loc main_arg0) j := by
  show m ((c.tc : Thread nD τ).loc main_arg0) (((cfg0.win 4).blk t).view.emb i) = _
  blk_ext [idx t]

/-- The values of the block before. -/
theorem vprev_at (t : Fin cfg0.N) (i : S128x256.Idx) (j : S8192x4608.Idx)
    (h0 : (j 0).val = (t.val - if t.val % 32 = 0 then 0 else 1) * 128 + (i 0).val) (h1 : (j 1).val = 1280 + (i 1).val) : iblk m c 5 t i = m ((c.tc : Thread nD τ).loc main_arg0) j := by
  show m ((c.tc : Thread nD τ).loc main_arg0) (((cfg0.win 5).blk t).view.emb i) = _
  blk_ext [idx t]

/-- The values of the own block. -/
theorem vown_at (t : Fin cfg0.N) (i : S128x256.Idx) (j : S8192x4608.Idx)
    (h0 : (j 0).val = t.val * 128 + (i 0).val) (h1 : (j 1).val = 1280 + (i 1).val) : iblk m c 6 t i = m ((c.tc : Thread nD τ).loc main_arg0) j := by
  show m ((c.tc : Thread nD τ).loc main_arg0) (((cfg0.win 6).blk t).view.emb i) = _
  blk_ext [idx t]

/-- The values of the block after. -/
theorem vnext_at (t : Fin cfg0.N) (i : S128x256.Idx) (j : S8192x4608.Idx)
    (h0 : (j 0).val = (t.val + if t.val % 32 = 31 then 0 else 1) * 128 + (i 0).val) (h1 : (j 1).val = 1280 + (i 1).val) : iblk m c 7 t i = m ((c.tc : Thread nD τ).loc main_arg0) j := by
  show m ((c.tc : Thread nD τ).loc main_arg0) (((cfg0.win 7).blk t).view.emb i) = _
  blk_ext [idx t]

/-- The queries of a point. -/
theorem q_at (t : Fin cfg0.N) (i : S128x1024.Idx) (j : S8192x4608.Idx)
    (h0 : (j 0).val = t.val * 128 + (i 0).val) (h1 : (j 1).val = (i 1).val) : X0_1 m c t i = m ((c.tc : Thread nD τ).loc main_arg0) j := by
  unfold X0_1 Pipeline.Window.fill
  rw [dif_pos (moved0_1 t i)]
  show m ((c.tc : Thread nD τ).loc main_arg0) (((cfg0.win 1).blk t).view.emb _) = _
  blk_ext [idx t]

/-- The bias block is the whole bias array. -/
theorem bias_blk (t : Fin cfg0.N) (i : S8x128x384.Idx) : iblk m c 8 t i = HBIAS (m ((c.tc : Thread nD τ).loc main_arg1)) (HOT BUCKET) i := by
  show V m c main_v41 (((cfg0.win 8).blk t).view.emb i) = _
  rw [V_bias]
  refine congrArg _ ?_
  blk_ext [idx t]

/-- The sink block is the whole row of sink logits. -/
theorem sink_blk (t : Fin cfg0.N) (h : Fin 8) (j : S8.Idx) (hj : (j 0).val = h.val) : iblk m c 0 t j = m ((c.tc : Thread nD τ).loc main_arg2) (ix2 0 h) := by
  show V m c main_v42 (((cfg0.win 0).blk t).view.emb j) = _
  rw [V_sink]
  pointwise
  blk_ext [idx t]

/-- The keys of a block's band are rows of the projections. -/
theorem key_rows (t : Fin cfg0.N) (k : Fin 384) (e : Fin 256) :
    three (iblk m c 2 t) (iblk m c 3 t) (iblk m c 4 t) k e = m ((c.tc : Thread nD τ).loc main_arg0) (ix2 (row ⟨t.val, t.isLt⟩ k) ⟨1024 + e.val, by omega⟩) := by
  unfold three
  by_cases h : k.val < 128
  · rw [dif_pos h]
    refine kprev_at m c t _ _ ?_ rfl
    show (row _ k).val = _
    unfold row
    simp only [if_pos h]
    rfl
  · rw [dif_neg h]
    by_cases h' : k.val < 256
    · rw [dif_pos h']
      refine kown_at m c t _ _ ?_ rfl
      show (row _ k).val = _
      unfold row
      simp only [if_neg h, if_pos h']
      rfl
    · rw [dif_neg h']
      refine knext_at m c t _ _ ?_ rfl
      show (row _ k).val = _
      unfold row
      simp only [if_neg h, if_neg h']
      rfl

/-- The values of a block's band are rows of the projections. -/
theorem val_rows (t : Fin cfg0.N) (k : Fin 384) (e : Fin 256) :
    three (iblk m c 5 t) (iblk m c 6 t) (iblk m c 7 t) k e = m ((c.tc : Thread nD τ).loc main_arg0) (ix2 (row ⟨t.val, t.isLt⟩ k) ⟨1280 + e.val, by omega⟩) := by
  unfold three
  by_cases h : k.val < 128
  · rw [dif_pos h]
    refine vprev_at m c t _ _ ?_ rfl
    show (row _ k).val = _
    unfold row
    simp only [if_pos h]
    rfl
  · rw [dif_neg h]
    by_cases h' : k.val < 256
    · rw [dif_pos h']
      refine vown_at m c t _ _ ?_ rfl
      show (row _ k).val = _
      unfold row
      simp only [if_neg h, if_pos h']
      rfl
    · rw [dif_neg h']
      refine vnext_at m c t _ _ ?_ rfl
      show (row _ k).val = _
      unfold row
      simp only [if_neg h, if_neg h']
      rfl

/-- The first group's half of a band. -/
theorem cut_lo (v : FVec Ideal S384x256 .bf16) (k : Fin 384) (x : Fin 128) :
    extractStridedSlice S384x128 ![0, 0] v slices_S384x256_o0_0_S384x128 (ix2 k x) = v (ix2 k ⟨x.val, by omega⟩) := by
  pointwise

/-- The second group's half of a band. -/
theorem cut_hi (v : FVec Ideal S384x256 .bf16) (k : Fin 384) (x : Fin 128) :
    extractStridedSlice S384x128 ![0, 128] v slices_S384x256_o0_128_S384x128 (ix2 k x) = v (ix2 k ⟨128 + x.val, by omega⟩) := by
  pointwise

/-- The tile holds the queries of head `j` of group `g`. -/
def Queries (t : Fin cfg0.N) (g : Fin 2) (j : Fin 4) (q : FVec Ideal S128x128 .f32) : Prop :=
  ∀ y x : Fin 128, q (ix2 y x) = m ((c.tc : Thread nD τ).loc main_arg0) (ix2 ⟨t.val * 128 + y.val, by have h : t.val < 64 := t.isLt; omega⟩ ⟨g.val * 512 + j.val * 128 + x.val, by omega⟩)

/-- The number is the sink logit of head `j` of group `g`. -/
def Sink (g : Fin 2) (j : Fin 4) (s : EReal) : Prop := s = m ((c.tc : Thread nD τ).loc main_arg2) (ix2 0 ⟨g.val * 4 + j.val, by omega⟩)

/-- The tile holds the biases of group `g`'s heads. -/
def Biases (g : Fin 2) (B : FVec Ideal S4x128x384 .f32) : Prop :=
  ∀ (j : Fin 4) (y : Fin 128) (k : Fin 384), B (ix3 j y k) = HBIAS (m ((c.tc : Thread nD τ).loc main_arg1)) (HOT BUCKET) (ix3 ⟨g.val * 4 + j.val, by omega⟩ y k)

variable (q0 q1 q2 q3 : FVec Ideal S128x128 .f32) (s0 s1 s2 s3 : EReal) (B : Vec Ideal S4x128x384 .f32)

/-- The first group's rows. -/
theorem lo_at (t : Fin cfg0.N) (hq0 : Queries m c t 0 0 q0) (hq1 : Queries m c t 0 1 q1) (hq2 : Queries m c t 0 2 q2) (hq3 : Queries m c t 0 3 q3)
    (hs0 : Sink m c 0 0 s0) (hs1 : Sink m c 0 1 s1) (hs2 : Sink m c 0 2 s2) (hs3 : Sink m c 0 3 s3) (hB : Biases m c 0 B)
    (r : Fin 512) (d : Fin 128) (z : S8192x1024.Idx) (h0 : (z 0).val = t.val * 128 + r.val % 128) (h1 : (z 1).val = 0 * 512 + r.val / 128 * 128 + d.val) :
    k0_pay9 (k0_pay1 (grid0.coords t)) HEADS (k0_pay7 (iblk m c 5 t) (iblk m c 6 t) (iblk m c 7 t)) (k0_pay8 (iblk m c 2 t) (iblk m c 3 t) (iblk m c 4 t) q0 q1 q2 q3) B s0 s1 s2 s3 (ix2 r d)
      = REF (m ((c.tc : Thread nD τ).loc main_arg0)) (m ((c.tc : Thread nD τ).loc main_arg1)) (m ((c.tc : Thread nD τ).loc main_arg2)) z := by
  refine (congrFun (pay9_eq _ _ _ _ _ _ _ ![q0, q1, q2, q3] ![s0, s1, s2, s3]) _).trans ?_
  refine group_eq _ _ _ ⟨t.val, t.isLt⟩ 0 _ (idx t).2.2.2.2.2.2.2.2.2.2 _ _ _ _ _ ?_ ?_ ?_ ?_ hB r d z h0 h1
  · exact fun j => match j with | 0 => hq0 | 1 => hq1 | 2 => hq2 | 3 => hq3
  · exact fun j => match j with | 0 => hs0 | 1 => hs1 | 2 => hs2 | 3 => hs3
  · intro k x
    rw [cut_lo, rows_at, key_rows]
    exact congrArg (fun e => m ((c.tc : Thread nD τ).loc main_arg0) (ix2 _ e)) (Fin.ext (by show 1024 + x.val = 1024 + 0 * 128 + x.val; omega))
  · intro k x
    refine (cut_lo _ k x).trans ((rows_at _ _ _ _ _).trans ((val_rows m c t _ _).trans ?_))
    exact congrArg (fun e => m ((c.tc : Thread nD τ).loc main_arg0) (ix2 _ e)) (Fin.ext (by show 1280 + x.val = 1280 + 0 * 128 + x.val; omega))

/-- The second group's rows. -/
theorem hi_at (t : Fin cfg0.N) (hq0 : Queries m c t 1 0 q0) (hq1 : Queries m c t 1 1 q1) (hq2 : Queries m c t 1 2 q2) (hq3 : Queries m c t 1 3 q3)
    (hs0 : Sink m c 1 0 s0) (hs1 : Sink m c 1 1 s1) (hs2 : Sink m c 1 2 s2) (hs3 : Sink m c 1 3 s3) (hB : Biases m c 1 B)
    (r : Fin 512) (d : Fin 128) (z : S8192x1024.Idx) (h0 : (z 0).val = t.val * 128 + r.val % 128) (h1 : (z 1).val = 1 * 512 + r.val / 128 * 128 + d.val) :
    k0_pay18 HEADS (k0_pay14 (k0_pay6 (iblk m c 5 t) (iblk m c 6 t) (iblk m c 7 t))) (k0_pay15 (k0_pay1 (grid0.coords t)) (k0_pay5 (iblk m c 2 t) (iblk m c 3 t) (iblk m c 4 t)) q0 q1 q2 q3 B)
        (k0_pay16 HEADS s0) k0_pay17 s1 s2 s3 (ix2 r d)
      = REF (m ((c.tc : Thread nD τ).loc main_arg0)) (m ((c.tc : Thread nD τ).loc main_arg1)) (m ((c.tc : Thread nD τ).loc main_arg2)) z := by
  refine (congrFun (pay18_eq _ _ _ _ _ _ _ ![q0, q1, q2, q3] ![s0, s1, s2, s3]) _).trans ?_
  refine group_eq _ _ _ ⟨t.val, t.isLt⟩ 1 _ (idx t).2.2.2.2.2.2.2.2.2.2 _ _ _ _ _ ?_ ?_ ?_ ?_ hB r d z h0 h1
  · exact fun j => match j with | 0 => hq0 | 1 => hq1 | 2 => hq2 | 3 => hq3
  · exact fun j => match j with | 0 => hs0 | 1 => hs1 | 2 => hs2 | 3 => hs3
  · intro k x
    rw [cut_hi, rows_at, key_rows]
    exact congrArg (fun e => m ((c.tc : Thread nD τ).loc main_arg0) (ix2 _ e)) (Fin.ext (by show 1024 + (128 + x.val) = 1024 + 1 * 128 + x.val; omega))
  · intro k x
    refine (cut_hi _ k x).trans ((rows_at _ _ _ _ _).trans ((val_rows m c t _ _).trans ?_))
    exact congrArg (fun e => m ((c.tc : Thread nD τ).loc main_arg0) (ix2 _ e)) (Fin.ext (by show 1280 + (128 + x.val) = 1280 + 1 * 128 + x.val; omega))

end Cert.KernelIdeal.Attn

end
-- ==== Proof.Attn.lean ====
/-
  The windowed attention: the eight tiles each grid point stores are the reference's, so the array the kernel leaves is; the claims.
-/
module

public import proofs.«01_k».proof.Proof.AttnBlocks
public import proofs.«01_k».proof.Defs
public import proofs.«01_k».proof.Proof.Gen.Kernel.Frame
public import proofs.«01_k».proof.Proof.Gen.KernelIdeal.Value
public import proofs.«01_k».proof.Proof.Gen.ReferenceIdeal.Run

@[expose] public section

set_option maxRecDepth 16384
set_option maxHeartbeats 4000000

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.KernelIdeal.Value
open Cert.ReferenceIdeal.Attn (REF BUCKET)

variable (m : (ℓ : Loc nD τ sig) → Buf (Elt Ideal) ℓ) (c : Dev nD)

/-- The rows of head 0 of a group. -/
theorem cut0 (v : FVec Ideal S512x128 .f32) (x : S128x128.Idx) :
    extractStridedSlice S128x128 ![0, 0] v slices_S512x128_o0_0_S128x128 x = v (ix2 ⟨0 + (x 0).val, by have h : (x 0).val < 128 := (x 0).isLt; omega⟩ (x 1)) := by
  pointwise

/-- The rows of head 1 of a group. -/
theorem cut1 (v : FVec Ideal S512x128 .f32) (x : S128x128.Idx) :
    extractStridedSlice S128x128 ![128, 0] v slices_S512x128_o128_0_S128x128 x = v (ix2 ⟨128 + (x 0).val, by have h : (x 0).val < 128 := (x 0).isLt; omega⟩ (x 1)) := by
  pointwise

/-- The rows of head 2 of a group. -/
theorem cut2 (v : FVec Ideal S512x128 .f32) (x : S128x128.Idx) :
    extractStridedSlice S128x128 ![256, 0] v slices_S512x128_o256_0_S128x128 x = v (ix2 ⟨256 + (x 0).val, by have h : (x 0).val < 128 := (x 0).isLt; omega⟩ (x 1)) := by
  pointwise

/-- The rows of head 3 of a group. -/
theorem cut3 (v : FVec Ideal S512x128 .f32) (x : S128x128.Idx) :
    extractStridedSlice S128x128 ![384, 0] v slices_S512x128_o384_0_S128x128 x = v (ix2 ⟨384 + (x 0).val, by have h : (x 0).val < 128 := (x 0).isLt; omega⟩ (x 1)) := by
  pointwise

variable (M : IVec S512x384 1) (w : IVec S512x1 32) (W : FVec Ideal S384x128 .bf16) (D : FVec Ideal S512x384 .f32) (B : Vec Ideal S4x128x384 .f32)
variable (P : FVec Ideal S512x1 .f32) (u : IVec S512x1 32) (s0 s1 s2 s3 : Elt Ideal .f32) (x : S128x128.Idx)

/-- The tiles of the first group's heads are rows of its result. -/
theorem lo0 : k0_pay10 M w W D B s0 s1 s2 s3 x = k0_pay9 M w W D B s0 s1 s2 s3 (ix2 ⟨0 + (x 0).val, by have h : (x 0).val < 128 := (x 0).isLt; omega⟩ (x 1)) := by
  unfold k0_pay10
  exact cut0 _ x
theorem lo1 : k0_pay11 (k0_pay9 M w W D B s0 s1 s2 s3) x = k0_pay9 M w W D B s0 s1 s2 s3 (ix2 ⟨128 + (x 0).val, by have h : (x 0).val < 128 := (x 0).isLt; omega⟩ (x 1)) := by
  unfold k0_pay11
  exact cut1 _ x
theorem lo2 : k0_pay12 (k0_pay9 M w W D B s0 s1 s2 s3) x = k0_pay9 M w W D B s0 s1 s2 s3 (ix2 ⟨256 + (x 0).val, by have h : (x 0).val < 128 := (x 0).isLt; omega⟩ (x 1)) := by
  unfold k0_pay12
  exact cut2 _ x
theorem lo3 : k0_pay13 (k0_pay9 M w W D B s0 s1 s2 s3) x = k0_pay9 M w W D B s0 s1 s2 s3 (ix2 ⟨384 + (x 0).val, by have h : (x 0).val < 128 := (x 0).isLt; omega⟩ (x 1)) := by
  unfold k0_pay13
  exact cut3 _ x
/-- The tiles of the second group's heads are rows of its result. -/
theorem hi0 : k0_pay19 w W D P u s1 s2 s3 x = k0_pay18 w W D P u s1 s2 s3 (ix2 ⟨0 + (x 0).val, by have h : (x 0).val < 128 := (x 0).isLt; omega⟩ (x 1)) := by
  unfold k0_pay19
  exact cut0 _ x
theorem hi1 : k0_pay20 w W D P u s1 s2 s3 x = k0_pay18 w W D P u s1 s2 s3 (ix2 ⟨128 + (x 0).val, by have h : (x 0).val < 128 := (x 0).isLt; omega⟩ (x 1)) := by
  unfold k0_pay20
  exact cut1 _ x
theorem hi2 : k0_pay21 w W D P u s1 s2 s3 x = k0_pay18 w W D P u s1 s2 s3 (ix2 ⟨256 + (x 0).val, by have h : (x 0).val < 128 := (x 0).isLt; omega⟩ (x 1)) := by
  unfold k0_pay21
  exact cut2 _ x
theorem hi3 : k0_pay22 w W D P u s1 s2 s3 x = k0_pay18 w W D P u s1 s2 s3 (ix2 ⟨384 + (x 0).val, by have h : (x 0).val < 128 := (x 0).isLt; omega⟩ (x 1)) := by
  unfold k0_pay22
  exact cut3 _ x

/-- The array the attention kernel leaves. -/
theorem final : (dats m 0 c).arrAt 9 (cfgs 0).N = REF (m ((c.tc : Thread nD τ).loc main_arg0)) (m ((c.tc : Thread nD τ).loc main_arg1)) (m ((c.tc : Thread nD τ).loc main_arg2)) := by
  refine (dats m 0 c).arrAt_eq_of_covers 9 _ (by decide +kernel) fun t _ y => ?_
  blk_simp
  rw [after0_9]
  unfold outsAt0
  frame_out
  canon_tiles x h
  case piece7 =>
    refine (lo0 _ _ _ _ _ _ _ _ _ x).trans ?_
    have hx0 : (x 0).val < 128 := (x 0).isLt
    refine lo_at m c _ _ _ _ _ _ _ _ _ t ?_ ?_ ?_ ?_ ?_ ?_ ?_ ?_ ?_ _ _ _ ?_ ?_
    · exact fun y x => q_at m c t _ _ (show t.val * 128 + y.val = t.val * 128 + (0 + 1 * y.val) by omega) (show 0 * 512 + 0 * 128 + x.val = 0 + 1 * x.val by omega)
    · exact fun y x => q_at m c t _ _ (show t.val * 128 + y.val = t.val * 128 + (0 + 1 * y.val) by omega) (show 0 * 512 + 1 * 128 + x.val = 128 + 1 * x.val by omega)
    · exact fun y x => q_at m c t _ _ (show t.val * 128 + y.val = t.val * 128 + (0 + 1 * y.val) by omega) (show 0 * 512 + 2 * 128 + x.val = 256 + 1 * x.val by omega)
    · exact fun y x => q_at m c t _ _ (show t.val * 128 + y.val = t.val * 128 + (0 + 1 * y.val) by omega) (show 0 * 512 + 3 * 128 + x.val = 384 + 1 * x.val by omega)
    · exact sink_blk m c t _ _ rfl
    · exact sink_blk m c t _ _ rfl
    · exact sink_blk m c t _ _ rfl
    · exact sink_blk m c t _ _ rfl
    · exact fun j y k => (bias_blk m c t _).trans (congrArg _ (funext fun a => match a with
        | 0 => Fin.ext (show 0 + 1 * j.val = 0 * 4 + j.val by omega)
        | 1 => Fin.ext (show 0 + 1 * y.val = y.val by omega)
        | 2 => Fin.ext (show 0 + 1 * k.val = k.val by omega)))
    · blk_simp [idx t]
      show t.val * 128 + (y 0).val = t.val * 128 + (x 0).val % 128
      omega
    · blk_simp [idx t]
      show (y 1).val = (x 0).val / 128 * 128 + (x 1).val
      omega
  case piece6 =>
    refine (lo1 _ _ _ _ _ _ _ _ _ x).trans ?_
    have hx0 : (x 0).val < 128 := (x 0).isLt
    refine lo_at m c _ _ _ _ _ _ _ _ _ t ?_ ?_ ?_ ?_ ?_ ?_ ?_ ?_ ?_ _ _ _ ?_ ?_
    · exact fun y x => q_at m c t _ _ (show t.val * 128 + y.val = t.val * 128 + (0 + 1 * y.val) by omega) (show 0 * 512 + 0 * 128 + x.val = 0 + 1 * x.val by omega)
    · exact fun y x => q_at m c t _ _ (show t.val * 128 + y.val = t.val * 128 + (0 + 1 * y.val) by omega) (show 0 * 512 + 1 * 128 + x.val = 128 + 1 * x.val by omega)
    · exact fun y x => q_at m c t _ _ (show t.val * 128 + y.val = t.val * 128 + (0 + 1 * y.val) by omega) (show 0 * 512 + 2 * 128 + x.val = 256 + 1 * x.val by omega)
    · exact fun y x => q_at m c t _ _ (show t.val * 128 + y.val = t.val * 128 + (0 + 1 * y.val) by omega) (show 0 * 512 + 3 * 128 + x.val = 384 + 1 * x.val by omega)
    · exact sink_blk m c t _ _ rfl
    · exact sink_blk m c t _ _ rfl
    · exact sink_blk m c t _ _ rfl
    · exact sink_blk m c t _ _ rfl
    · exact fun j y k => (bias_blk m c t _).trans (congrArg _ (funext fun a => match a with
        | 0 => Fin.ext (show 0 + 1 * j.val = 0 * 4 + j.val by omega)
        | 1 => Fin.ext (show 0 + 1 * y.val = y.val by omega)
        | 2 => Fin.ext (show 0 + 1 * k.val = k.val by omega)))
    · blk_simp [idx t]
      show t.val * 128 + (y 0).val = t.val * 128 + (128 + (x 0).val) % 128
      omega
    · blk_simp [idx t]
      show (y 1).val = (128 + (x 0).val) / 128 * 128 + (x 1).val
      omega
  case piece5 =>
    refine (lo2 _ _ _ _ _ _ _ _ _ x).trans ?_
    have hx0 : (x 0).val < 128 := (x 0).isLt
    refine lo_at m c _ _ _ _ _ _ _ _ _ t ?_ ?_ ?_ ?_ ?_ ?_ ?_ ?_ ?_ _ _ _ ?_ ?_
    · exact fun y x => q_at m c t _ _ (show t.val * 128 + y.val = t.val * 128 + (0 + 1 * y.val) by omega) (show 0 * 512 + 0 * 128 + x.val = 0 + 1 * x.val by omega)
    · exact fun y x => q_at m c t _ _ (show t.val * 128 + y.val = t.val * 128 + (0 + 1 * y.val) by omega) (show 0 * 512 + 1 * 128 + x.val = 128 + 1 * x.val by omega)
    · exact fun y x => q_at m c t _ _ (show t.val * 128 + y.val = t.val * 128 + (0 + 1 * y.val) by omega) (show 0 * 512 + 2 * 128 + x.val = 256 + 1 * x.val by omega)
    · exact fun y x => q_at m c t _ _ (show t.val * 128 + y.val = t.val * 128 + (0 + 1 * y.val) by omega) (show 0 * 512 + 3 * 128 + x.val = 384 + 1 * x.val by omega)
    · exact sink_blk m c t _ _ rfl
    · exact sink_blk m c t _ _ rfl
    · exact sink_blk m c t _ _ rfl
    · exact sink_blk m c t _ _ rfl
    · exact fun j y k => (bias_blk m c t _).trans (congrArg _ (funext fun a => match a with
        | 0 => Fin.ext (show 0 + 1 * j.val = 0 * 4 + j.val by omega)
        | 1 => Fin.ext (show 0 + 1 * y.val = y.val by omega)
        | 2 => Fin.ext (show 0 + 1 * k.val = k.val by omega)))
    · blk_simp [idx t]
      show t.val * 128 + (y 0).val = t.val * 128 + (256 + (x 0).val) % 128
      omega
    · blk_simp [idx t]
      show (y 1).val = (256 + (x 0).val) / 128 * 128 + (x 1).val
      omega
  case piece4 =>
    refine (lo3 _ _ _ _ _ _ _ _ _ x).trans ?_
    have hx0 : (x 0).val < 128 := (x 0).isLt
    refine lo_at m c _ _ _ _ _ _ _ _ _ t ?_ ?_ ?_ ?_ ?_ ?_ ?_ ?_ ?_ _ _ _ ?_ ?_
    · exact fun y x => q_at m c t _ _ (show t.val * 128 + y.val = t.val * 128 + (0 + 1 * y.val) by omega) (show 0 * 512 + 0 * 128 + x.val = 0 + 1 * x.val by omega)
    · exact fun y x => q_at m c t _ _ (show t.val * 128 + y.val = t.val * 128 + (0 + 1 * y.val) by omega) (show 0 * 512 + 1 * 128 + x.val = 128 + 1 * x.val by omega)
    · exact fun y x => q_at m c t _ _ (show t.val * 128 + y.val = t.val * 128 + (0 + 1 * y.val) by omega) (show 0 * 512 + 2 * 128 + x.val = 256 + 1 * x.val by omega)
    · exact fun y x => q_at m c t _ _ (show t.val * 128 + y.val = t.val * 128 + (0 + 1 * y.val) by omega) (show 0 * 512 + 3 * 128 + x.val = 384 + 1 * x.val by omega)
    · exact sink_blk m c t _ _ rfl
    · exact sink_blk m c t _ _ rfl
    · exact sink_blk m c t _ _ rfl
    · exact sink_blk m c t _ _ rfl
    · exact fun j y k => (bias_blk m c t _).trans (congrArg _ (funext fun a => match a with
        | 0 => Fin.ext (show 0 + 1 * j.val = 0 * 4 + j.val by omega)
        | 1 => Fin.ext (show 0 + 1 * y.val = y.val by omega)
        | 2 => Fin.ext (show 0 + 1 * k.val = k.val by omega)))
    · blk_simp [idx t]
      show t.val * 128 + (y 0).val = t.val * 128 + (384 + (x 0).val) % 128
      omega
    · blk_simp [idx t]
      show (y 1).val = (384 + (x 0).val) / 128 * 128 + (x 1).val
      omega
  case piece3 =>
    refine (hi0 _ _ _ _ _ _ _ _ x).trans ?_
    have hx0 : (x 0).val < 128 := (x 0).isLt
    refine hi_at m c _ _ _ _ _ _ _ _ _ t ?_ ?_ ?_ ?_ ?_ ?_ ?_ ?_ ?_ _ _ _ ?_ ?_
    · exact fun y x => q_at m c t _ _ (show t.val * 128 + y.val = t.val * 128 + (0 + 1 * y.val) by omega) (show 1 * 512 + 0 * 128 + x.val = 512 + 1 * x.val by omega)
    · exact fun y x => q_at m c t _ _ (show t.val * 128 + y.val = t.val * 128 + (0 + 1 * y.val) by omega) (show 1 * 512 + 1 * 128 + x.val = 640 + 1 * x.val by omega)
    · exact fun y x => q_at m c t _ _ (show t.val * 128 + y.val = t.val * 128 + (0 + 1 * y.val) by omega) (show 1 * 512 + 2 * 128 + x.val = 768 + 1 * x.val by omega)
    · exact fun y x => q_at m c t _ _ (show t.val * 128 + y.val = t.val * 128 + (0 + 1 * y.val) by omega) (show 1 * 512 + 3 * 128 + x.val = 896 + 1 * x.val by omega)
    · exact sink_blk m c t _ _ rfl
    · exact sink_blk m c t _ _ rfl
    · exact sink_blk m c t _ _ rfl
    · exact sink_blk m c t _ _ rfl
    · exact fun j y k => (bias_blk m c t _).trans (congrArg _ (funext fun a => match a with
        | 0 => Fin.ext (show 4 + 1 * j.val = 1 * 4 + j.val by omega)
        | 1 => Fin.ext (show 0 + 1 * y.val = y.val by omega)
        | 2 => Fin.ext (show 0 + 1 * k.val = k.val by omega)))
    · blk_simp [idx t]
      show t.val * 128 + (y 0).val = t.val * 128 + (x 0).val % 128
      omega
    · blk_simp [idx t]
      show (y 1).val = 512 + (x 0).val / 128 * 128 + (x 1).val
      omega
  case piece2 =>
    refine (hi1 _ _ _ _ _ _ _ _ x).trans ?_
    have hx0 : (x 0).val < 128 := (x 0).isLt
    refine hi_at m c _ _ _ _ _ _ _ _ _ t ?_ ?_ ?_ ?_ ?_ ?_ ?_ ?_ ?_ _ _ _ ?_ ?_
    · exact fun y x => q_at m c t _ _ (show t.val * 128 + y.val = t.val * 128 + (0 + 1 * y.val) by omega) (show 1 * 512 + 0 * 128 + x.val = 512 + 1 * x.val by omega)
    · exact fun y x => q_at m c t _ _ (show t.val * 128 + y.val = t.val * 128 + (0 + 1 * y.val) by omega) (show 1 * 512 + 1 * 128 + x.val = 640 + 1 * x.val by omega)
    · exact fun y x => q_at m c t _ _ (show t.val * 128 + y.val = t.val * 128 + (0 + 1 * y.val) by omega) (show 1 * 512 + 2 * 128 + x.val = 768 + 1 * x.val by omega)
    · exact fun y x => q_at m c t _ _ (show t.val * 128 + y.val = t.val * 128 + (0 + 1 * y.val) by omega) (show 1 * 512 + 3 * 128 + x.val = 896 + 1 * x.val by omega)
    · exact sink_blk m c t _ _ rfl
    · exact sink_blk m c t _ _ rfl
    · exact sink_blk m c t _ _ rfl
    · exact sink_blk m c t _ _ rfl
    · exact fun j y k => (bias_blk m c t _).trans (congrArg _ (funext fun a => match a with
        | 0 => Fin.ext (show 4 + 1 * j.val = 1 * 4 + j.val by omega)
        | 1 => Fin.ext (show 0 + 1 * y.val = y.val by omega)
        | 2 => Fin.ext (show 0 + 1 * k.val = k.val by omega)))
    · blk_simp [idx t]
      show t.val * 128 + (y 0).val = t.val * 128 + (128 + (x 0).val) % 128
      omega
    · blk_simp [idx t]
      show (y 1).val = 512 + (128 + (x 0).val) / 128 * 128 + (x 1).val
      omega
  case piece1 =>
    refine (hi2 _ _ _ _ _ _ _ _ x).trans ?_
    have hx0 : (x 0).val < 128 := (x 0).isLt
    refine hi_at m c _ _ _ _ _ _ _ _ _ t ?_ ?_ ?_ ?_ ?_ ?_ ?_ ?_ ?_ _ _ _ ?_ ?_
    · exact fun y x => q_at m c t _ _ (show t.val * 128 + y.val = t.val * 128 + (0 + 1 * y.val) by omega) (show 1 * 512 + 0 * 128 + x.val = 512 + 1 * x.val by omega)
    · exact fun y x => q_at m c t _ _ (show t.val * 128 + y.val = t.val * 128 + (0 + 1 * y.val) by omega) (show 1 * 512 + 1 * 128 + x.val = 640 + 1 * x.val by omega)
    · exact fun y x => q_at m c t _ _ (show t.val * 128 + y.val = t.val * 128 + (0 + 1 * y.val) by omega) (show 1 * 512 + 2 * 128 + x.val = 768 + 1 * x.val by omega)
    · exact fun y x => q_at m c t _ _ (show t.val * 128 + y.val = t.val * 128 + (0 + 1 * y.val) by omega) (show 1 * 512 + 3 * 128 + x.val = 896 + 1 * x.val by omega)
    · exact sink_blk m c t _ _ rfl
    · exact sink_blk m c t _ _ rfl
    · exact sink_blk m c t _ _ rfl
    · exact sink_blk m c t _ _ rfl
    · exact fun j y k => (bias_blk m c t _).trans (congrArg _ (funext fun a => match a with
        | 0 => Fin.ext (show 4 + 1 * j.val = 1 * 4 + j.val by omega)
        | 1 => Fin.ext (show 0 + 1 * y.val = y.val by omega)
        | 2 => Fin.ext (show 0 + 1 * k.val = k.val by omega)))
    · blk_simp [idx t]
      show t.val * 128 + (y 0).val = t.val * 128 + (256 + (x 0).val) % 128
      omega
    · blk_simp [idx t]
      show (y 1).val = 512 + (256 + (x 0).val) / 128 * 128 + (x 1).val
      omega
  case piece0 =>
    refine (hi3 _ _ _ _ _ _ _ _ x).trans ?_
    have hx0 : (x 0).val < 128 := (x 0).isLt
    refine hi_at m c _ _ _ _ _ _ _ _ _ t ?_ ?_ ?_ ?_ ?_ ?_ ?_ ?_ ?_ _ _ _ ?_ ?_
    · exact fun y x => q_at m c t _ _ (show t.val * 128 + y.val = t.val * 128 + (0 + 1 * y.val) by omega) (show 1 * 512 + 0 * 128 + x.val = 512 + 1 * x.val by omega)
    · exact fun y x => q_at m c t _ _ (show t.val * 128 + y.val = t.val * 128 + (0 + 1 * y.val) by omega) (show 1 * 512 + 1 * 128 + x.val = 640 + 1 * x.val by omega)
    · exact fun y x => q_at m c t _ _ (show t.val * 128 + y.val = t.val * 128 + (0 + 1 * y.val) by omega) (show 1 * 512 + 2 * 128 + x.val = 768 + 1 * x.val by omega)
    · exact fun y x => q_at m c t _ _ (show t.val * 128 + y.val = t.val * 128 + (0 + 1 * y.val) by omega) (show 1 * 512 + 3 * 128 + x.val = 896 + 1 * x.val by omega)
    · exact sink_blk m c t _ _ rfl
    · exact sink_blk m c t _ _ rfl
    · exact sink_blk m c t _ _ rfl
    · exact sink_blk m c t _ _ rfl
    · exact fun j y k => (bias_blk m c t _).trans (congrArg _ (funext fun a => match a with
        | 0 => Fin.ext (show 4 + 1 * j.val = 1 * 4 + j.val by omega)
        | 1 => Fin.ext (show 0 + 1 * y.val = y.val by omega)
        | 2 => Fin.ext (show 0 + 1 * k.val = k.val by omega)))
    · blk_simp [idx t]
      show t.val * 128 + (y 0).val = t.val * 128 + (384 + (x 0).val) % 128
      omega
    · blk_simp [idx t]
      show (y 1).val = 512 + (384 + (x 0).val) / 128 * 128 + (x 1).val
      omega

end Cert.KernelIdeal.Attn

namespace Cert.Proof.Attn

theorem frame_kernel : Cert.quiescent_Kernel := fun m ρ _ => Cert.Kernel.Gen.frame m ρ
theorem frame_ideal : Cert.quiescent_KernelIdeal := fun m ρ _ => Cert.KernelIdeal.Gen.frame m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants: the attention's scale is 1/√128, and the mask's value is −∞. -/
theorem preserves : Cert.preserves_Kernel_KernelIdeal :=
  ⟨IdealRules.named_const.statement Cert.KernelIdeal.κ "scale" .f32 0x3DB504F3#32 (((Real.sqrt 128)⁻¹ : ℝ) : EReal) rfl,
    IdealRules.named_const.statement Cert.KernelIdeal.κ "mask" .f32 0xF149F2CA#32 ⊥ rfl⟩

/-- Kernel and reference attend alike over the extended reals. -/
theorem algebraic : Cert.algebraic_KernelIdeal_ReferenceIdeal := by
  pair_intro
  · run_from Cert.KernelIdeal.Gen.run_main m g
    · exact Cert.KernelIdeal.Gen.V_main_arg1 m c
    · exact Cert.KernelIdeal.Gen.V_main_arg2 m c
  · refine (θ_run Cert.ReferenceIdeal.defs _ _).mono (fun r h c => ⟨(h c).1.trans ?_, (h c).2⟩) (Cert.ReferenceIdeal.Value.run (F := Ideal) m' g')
    refine (Cert.ReferenceIdeal.Attn.res_eq m' c).trans (Eq.trans ?_ (Cert.KernelIdeal.Attn.final m c).symm)
    rw [(hagree c).1, (hagree c).2.1, (hagree c).2.2]

end Cert.Proof.Attn

end
-- ==== Proof.InProj.lean ====
/-
  The combined input projection. Each grid point of the kernel multiplies 1024 tokens by half of the weights' columns, whole
  rows at a time; the blocks tile the result, and each entry is the full sum over the 2048 channels: reference.py's `h @ w_in[0]`.
-/
module

public import proofs.«01_k».proof.Proof.Gen.KernelInProjIdeal.Frame
public import proofs.«01_k».proof.Proof.Gen.ReferenceInProjIdeal.Run
public import Idealize.ShloMosaic.Lib.Pipeline.ValueKit
public import Idealize.ShloMosaic.Lib.Claim
public import Idealize.ShloMosaic.Lib.Quiescent
public import proofs.«01_k».proof.Defs
public import proofs.«01_k».proof.Proof.Gen.KernelInProj.Frame

@[expose] public section

set_option maxRecDepth 16384

noncomputable section

open Idealize.ShloMosaic Idealize.ShloMosaic.TcCoe Idealize.SL.Sem
open Idealize.ShloMosaic.Pipeline (Dat)

namespace Cert.KernelInProjIdeal.Product

open Cert.KernelInProjIdeal Cert.KernelInProjIdeal.Gen

variable (m : (ℓ : Loc nD τ sig) → Buf (Elt Ideal) ℓ)

/-- The reference's product of the normalised tokens with the weights. -/
abbrev REF (h : FVec Ideal S8192x2048 .bf16) (w : FVec Ideal S1x2048x4608 .f32) : FVec Ideal S8192x4608 .f32 :=
  Host.dotGeneral Cert.ReferenceInProjIdeal.dot_S8192x2048_S2048x4608_S8192x4608_1_0_0_1_n_n none
    (extf .f32 h Cert.ReferenceInProjIdeal.Gen.bitsLt_bf16_f32)
    (shapeCast Cert.ReferenceInProjIdeal.S2048x4608 w Cert.ReferenceInProjIdeal.Gen.shapeCasts_S1x2048x4608_S2048x4608)

/-- Where the windows' blocks lie at a point: eight row blocks in each of two column halves. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- What a point stores at an entry of its block is the reference's product at that entry of the array. -/
theorem point (c : Dev nD) (t : Fin cfg0.N) (y : S1024x2304.Idx) : k0_pay1 (F := Ideal) (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelInProjIdeal.Product

namespace Cert.Proof.InProj

theorem frame_kernel : Cert.quiescent_KernelInProj := fun m ρ _ => Cert.KernelInProj.Gen.frame m ρ
theorem frame_ideal : Cert.quiescent_KernelInProjIdeal := fun m ρ _ => Cert.KernelInProjIdeal.Gen.frame m ρ
theorem frame_reference : Cert.quiescent_ReferenceInProjIdeal := fun m ρ _ =>
  (θ_run Cert.ReferenceInProjIdeal.defs _ _).mono (fun r h => ⟨fun c => (h c).2, sem_eq_zero_of_no_sems (by decide) r.2⟩)
    (Cert.ReferenceInProjIdeal.Value.run (F := Ideal) m ρ)

/-- Kernel and reference compute the same product over the extended reals. -/
theorem algebraic : Cert.algebraic_KernelInProjIdeal_ReferenceInProjIdeal := by
  pair_intro
  · run_from Cert.KernelInProjIdeal.Gen.run_main m g
  · hlo_run
    exact (Cert.KernelInProjIdeal.Product.final m c).symm

end Cert.Proof.InProj

end
-- ==== Proof.Ln0.lean ====
/-
  The first call: layer normalisation of the input, each token over its 2048 channels. Each grid point takes 1024 tokens; the second
  result is the same array cast to the narrower float, which over the extended reals is the same value.
-/
module

public import proofs.«01_k».proof.Proof.Gen.KernelLn0Ideal.Frame
public import proofs.«01_k».proof.Proof.Gen.ReferenceLn0Ideal.Run
public import Idealize.ShloMosaic.Lib.Pipeline.ValueKit
public import Idealize.ShloMosaic.Lib.Claim
public import Idealize.ShloMosaic.Lib.Quiescent
public import proofs.«01_k».proof.Defs
public import proofs.«01_k».proof.Proof.Gen.KernelLn0.Frame

@[expose] public section

set_option maxRecDepth 16384

noncomputable section

open Idealize.ShloMosaic Idealize.ShloMosaic.TcCoe Idealize.SL.Sem
open Idealize.ShloMosaic.Pipeline (Dat)

/-! ## The reference's term -/

namespace Cert.ReferenceLn0Ideal.Norm

open Cert.ReferenceLn0Ideal Cert.ReferenceLn0Ideal.Gen

/-- Each token's mean, as a column. -/
abbrev MEAN (z : FVec Ideal S2x4096x2048 .f32) : FVec Ideal S2x4096x1 .f32 :=
  Host.divf (broadcastInDim S2x4096x1 ![0, 1] bcast_S2x4096_S2x4096x1_0_1 (Host.reduceAdd z (constant S_ .f32 0x00000000#32) reducesTo_S2x4096x2048_S2x4096_d2 h_S_))
    (broadcastInDim S2x4096x1 ![] bcast_S_S2x4096x1 (constant S_ .f32 0x45000000#32))

/-- Each entry less its token's mean. -/
abbrev CEN (z : FVec Ideal S2x4096x2048 .f32) : FVec Ideal S2x4096x2048 .f32 :=
  subf z (broadcastInDim S2x4096x2048 ![0, 1, 2] bcast_S2x4096x1_S2x4096x2048_0_1_2 (MEAN z))

/-- A weight row repeated for every token. -/
abbrev ROW (g : FVec Ideal S2048 .f32) : FVec Ideal S2x4096x2048 .f32 :=
  broadcastInDim S2x4096x2048 ![0, 1, 2] bcast_S1x1x2048_S2x4096x2048_0_1_2 (broadcastInDim S1x1x2048 ![2] bcast_S2048_S1x1x2048_2 g)

/-- Layer normalisation of the input, as rows of tokens. -/
abbrev REF (x : FVec Ideal S2x4096x2048 .f32) (g b : FVec Ideal S2048 .f32) : FVec Ideal S8192x2048 .f32 :=
  shapeCast S8192x2048 (addf (mulf (mulf (CEN x) (broadcastInDim S2x4096x2048 ![0, 1, 2] bcast_S2x4096x1_S2x4096x2048_0_1_2
    (Host.rsqrt (addf (MEAN (mulf (CEN x) (CEN x))) (broadcastInDim S2x4096x1 ![] bcast_S_S2x4096x1 (constant S_ .f32 0x3727C5AC#32))))))
    (ROW g)) (ROW b)) shapeCasts_S2x4096x2048_S8192x2048

end Cert.ReferenceLn0Ideal.Norm

/-! ## The kernel -/

namespace Cert.KernelLn0Ideal.Norm

open Cert.KernelLn0Ideal Cert.KernelLn0Ideal.Gen
open Cert.ReferenceLn0Ideal.Norm (MEAN CEN ROW REF)

variable (m : (ℓ : Loc nD τ sig) → Buf (Elt Ideal) ℓ)

/-- The reference's term of the arguments. -/
abbrev OUT (c : Dev nD) : FVec Ideal S8192x2048 .f32 :=
  REF (m ((c : Thread nD τ).loc main_arg0)) (m ((c : Thread nD τ).loc main_arg1)) (m ((c : Thread nD τ).loc main_arg2))

/-- Where the windows' blocks lie at a point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem V_x (c : Dev nD) : V m c main_v0 = shapeCast S8192x2048 (m ((c : Thread nD τ).loc main_arg0) : FVec Ideal S2x4096x2048 .f32) shapeCasts_S2x4096x2048_S8192x2048 := by
  entry_read; rfl
theorem V_g (c : Dev nD) : V m c main_v1 = shapeCast S1x2048 (m ((c : Thread nD τ).loc main_arg1) : FVec Ideal S2048 .f32) shapeCasts_S2048_S1x2048 := by
  entry_read; rfl
theorem V_b (c : Dev nD) : V m c main_v2 = shapeCast S1x2048 (m ((c : Thread nD τ).loc main_arg2) : FVec Ideal S2048 .f32) shapeCasts_S2048_S1x2048 := by
  entry_read; rfl

/-- A token row of the input, at its place in the batch. -/
theorem rows (X : FVec Ideal S2x4096x2048 .f32) (i : S8192x2048.Idx) (j : S2x4096x2048.Idx)
    (h0 : (j 0).val = (i 0).val / 4096) (h1 : (j 1).val = (i 0).val % 4096) (h2 : (j 2).val = (i 1).val) :
    shapeCast S8192x2048 X shapeCasts_S2x4096x2048_S8192x2048 i = X j := by
  pointwise
  blk_ext

theorem x_at (c : Dev nD) (t : Fin cfg0.N) (i : S1024x2048.Idx) (j : S2x4096x2048.Idx)
    (h0 : (j 0).val = (t.val * 1024 + (i 0).val) / 4096) (h1 : (j 1).val = (t.val * 1024 + (i 0).val) % 4096) (h2 : (j 2).val = (i 1).val) :
    iblk m c 0 t i = m ((c : Thread nD τ).loc main_arg0) j := by
  show V m c main_v0 (((cfg0.win 0).blk t).view.emb i) = _
  rw [V_x]
  refine rows _ _ _ ?_ ?_ ?_
  · rw [h0]; blk_simp [idx t]
  · rw [h1]; blk_simp [idx t]
  · rw [h2]; blk_simp [idx t]

theorem g_at (c : Dev nD) (t : Fin cfg0.N) (i : S1x2048.Idx) (j : S2048.Idx) (h : (j 0).val = (i 1).val) :
    iblk m c 1 t i = m ((c : Thread nD τ).loc main_arg1) j := by
  show V m c main_v1 (((cfg0.win 1).blk t).view.emb i) = _
  rw [V_g]
  pointwise
  blk_ext [idx t]

theorem b_at (c : Dev nD) (t : Fin cfg0.N) (i : S1x2048.Idx) (j : S2048.Idx) (h : (j 0).val = (i 1).val) :
    iblk m c 2 t i = m ((c : Thread nD τ).loc main_arg2) j := by
  show V m c main_v2 (((cfg0.win 2).blk t).view.emb i) = _
  rw [V_b]
  pointwise
  blk_ext [idx t]

/-- What a point stores at an entry of its block is the reference's value at that entry of the array. -/
theorem point (c : Dev nD) (t : Fin cfg0.N) (y : S1024x2048.Idx) :
    k0_pay1 (F := Ideal) (iblk m c 0 t) (iblk m c 1 t) (iblk m c 2 t) y = OUT m c (((cfg0.win 3).blk t).view.emb y) := by
  pointwise [k0_pay1, OUT, REF, ROW, CEN, MEAN]
  blk_point [idx t]
  all_goals first
    | exact x_at m c t _ _ rfl rfl rfl
    | exact x_at m c t _ _ rfl rfl (by blk_simp [idx t])
    | exact g_at m c t _ _ (by blk_simp [idx t])
    | exact b_at m c t _ _ (by blk_simp [idx t])

/-- The result array after the run. -/
theorem final (c : Dev nD) : (dats m 0 c).arrAt 3 (cfgs 0).N = OUT m c := by
  refine (dats m 0 c).arrAt_eq_of_covers 3 _ (by decide +kernel) fun t _ y => ?_
  blk_simp
  rw [after0_3]; frame_out
  exact point m c t y

/-- The narrow copy of the result after the run. -/
theorem final' (c : Dev nD) : (dats m 0 c).arrAt 4 (cfgs 0).N = (truncf .bf16 (OUT m c) bitsLt_bf16_f32 : FVec Ideal S8192x2048 .bf16) := by
  refine (dats m 0 c).arrAt_eq_of_covers 4 _ (by decide +kernel) fun t _ y => ?_
  blk_simp
  rw [after0_4]; frame_out
  exact point m c t y

end Cert.KernelLn0Ideal.Norm

namespace Cert.Proof.Ln0

theorem frame_kernel : Cert.quiescent_KernelLn0 := fun m ρ _ => Cert.KernelLn0.Gen.frame m ρ
theorem frame_ideal : Cert.quiescent_KernelLn0Ideal := fun m ρ _ => Cert.KernelLn0Ideal.Gen.frame m ρ
theorem frame_reference : Cert.quiescent_ReferenceLn0Ideal := fun m ρ _ =>
  (θ_run Cert.ReferenceLn0Ideal.defs _ _).mono (fun r h => ⟨fun c => (h c).2.2, sem_eq_zero_of_no_sems (by decide) r.2⟩)
    (Cert.ReferenceLn0Ideal.Value.run (F := Ideal) m ρ)

/-- Kernel and reference normalise alike over the extended reals. -/
theorem algebraic : Cert.algebraic_KernelLn0Ideal_ReferenceLn0Ideal := by
  pair_intro
  · run_from Cert.KernelLn0Ideal.Gen.run_main m g
  · hlo_run
    · exact (Cert.KernelLn0Ideal.Norm.final m c).symm
    · exact (Cert.KernelLn0Ideal.Norm.final' m c).symm

end Cert.Proof.Ln0

end
-- ==== Proof.MixKer.lean ====
/-
  The grouped norm and the two products of the output projection's kernel, at one grid point of 512 tokens: what an entry of each is.
-/
module

public import proofs.«01_k».proof.Proof.Gen.KernelMixIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelMixIdeal.Mix

open Cert.KernelMixIdeal Cert.KernelMixIdeal.Gen

/-- 128 channels of each row over the root of their mean square, times a row of weights. -/
abbrev TILE (v : FVec Ideal S512x128 .f32) (g : Vec Ideal S1x128 .f32) : FVec Ideal S512x128 .bf16 :=
  truncf .bf16 (mulf (mulf v (broadcastTo S512x128 (rsqrt (addf (divf (shapeCast S512x1 (multiReduction .add [1] S512 (mulf v v) 0x00000000#32 reduces_S512x128_S512 (.inl rfl) rfl) shapeCasts_S512_S512x1)
    (broadcast S512x1 (Scalar.ofBits .f32 0x43000000#32 : Ideal .f32))) (broadcast S512x1 (Scalar.ofBits .f32 0x358637BD#32 : Ideal .f32)))) broadcasts_S512x1_S512x128))
    (broadcastTo S512x128 (shapeCast S1x128 g shapeCasts_S1x128_S1x128) broadcasts_S1x128_S512x128)) bitsLt_bf16_f32

/-- Eight tiles side by side. -/
abbrev SIDE (T : Fin 8 → FVec Ideal S512x128 .bf16) : FVec Ideal S512x1024 .bf16 :=
  concatenate S512x1024 1 [⟨S512x128, T 0⟩, ⟨S512x128, T 1⟩, ⟨S512x128, T 2⟩, ⟨S512x128, T 3⟩, ⟨S512x128, T 4⟩, ⟨S512x128, T 5⟩, ⟨S512x128, T 6⟩, ⟨S512x128, T 7⟩]
    concatenates_S512x128_S512x128_S512x128_S512x128_S512x128_S512x128_S512x128_S512x128_S512x1024_d1

/-- The eight groups of 128 channels. -/
abbrev CUT (X : FVec Ideal S512x1024 .f32) : Fin 8 → FVec Ideal S512x128 .f32 :=
  ![extractStridedSlice S512x128 ![0, 0] X slices_S512x1024_o0_0_S512x128, extractStridedSlice S512x128 ![0, 128] X slices_S512x1024_o0_128_S512x128,
    extractStridedSlice S512x128 ![0, 256] X slices_S512x1024_o0_256_S512x128, extractStridedSlice S512x128 ![0, 384] X slices_S512x1024_o0_384_S512x128,
    extractStridedSlice S512x128 ![0, 512] X slices_S512x1024_o0_512_S512x128, extractStridedSlice S512x128 ![0, 640] X slices_S512x1024_o0_640_S512x128,
    extractStridedSlice S512x128 ![0, 768] X slices_S512x1024_o0_768_S512x128, extractStridedSlice S512x128 ![0, 896] X slices_S512x1024_o0_896_S512x128]

/-- The grouped norm of 1024 channels, group by group. -/
abbrev NORMS (X : FVec Ideal S512x1024 .f32) (g : Fin 8 → Vec Ideal S1x128 .f32) : FVec Ideal S512x1024 .bf16 :=
  SIDE fun j => TILE (CUT X j) (g j)

variable (X Y : FVec Ideal S512x1024 .f32) (g0 g1 g2 g3 g4 g5 g6 g7 : Vec Ideal S1x128 .f32) (A : FVec Ideal S512x1024 .bf16) (W W' : Vec Ideal S1024x2048 .bf16)

theorem first_eq : k0_pay14 X (k0_pay3 X g0) (k0_pay4 X g1) (k0_pay9 (k0_pay5 X) (k0_pay6 X) (k0_pay7 g2) k0_pay8) (k0_pay10 X g3) (k0_pay11 X g4)
    (k0_pay12 X) (k0_pay13 X) g5 g6 g7 = NORMS X ![g0, g1, g2, g3, g4, g5, g6, g7] := rfl

/-- The two halves of the channels' products with the two halves of the weights' rows. -/
abbrev DOTS (A B : FVec Ideal S512x1024 .bf16) (W W' : Vec Ideal S1024x2048 .bf16) : FVec Ideal S512x2048 .f32 :=
  addf (matmul dot_S512x1024_S1024x2048_S512x2048_1_0_0_1_n_n none A (φ₂ := .bf16) (shapeCast S1024x2048 W shapeCasts_S1024x2048_S1024x2048) (constant S512x2048 .f32 0x00000000#32))
    (matmul dot_S512x1024_S1024x2048_S512x2048_1_0_0_1_n_n none B (φ₂ := .bf16) (shapeCast S1024x2048 W' shapeCasts_S1024x2048_S1024x2048) (constant S512x2048 .f32 0x00000000#32))

theorem both_eq : k0_pay25 A (k0_pay15 Y) (k0_pay18 (k0_pay16 Y) (k0_pay17 Y) g0) (k0_pay19 (k0_pay15 Y) g1) (k0_pay20 (k0_pay15 Y) g2) (k0_pay21 (k0_pay15 Y) g3)
    (k0_pay22 (k0_pay15 Y) g4) (k0_pay23 g5) (k0_pay24 (k0_pay15 Y)) g6 g7 W W' = DOTS A (NORMS (k0_pay15 Y) ![g0, g1, g2, g3, g4, g5, g6, g7]) W W' := rfl

theorem dots_at (B : FVec Ideal S512x1024 .bf16) (r : Fin 512) (o : Fin 2048) :
    DOTS A B W W' (ix2 r o) = (∑ k, A (ix2 r k) * W (ix2 k o)) + ∑ k, B (ix2 r k) * W' (ix2 k o) := by
  pointwise [DOTS]

theorem cut_at (r : Fin 512) (j : Fin 8) (d : Fin 128) : CUT X j (ix2 r d) = X (ix2 r ⟨j.val * 128 + d.val, by omega⟩) := by
  match j with
  | 0 => pointwise [CUT]
  | 1 => pointwise [CUT]
  | 2 => pointwise [CUT]
  | 3 => pointwise [CUT]
  | 4 => pointwise [CUT]
  | 5 => pointwise [CUT]
  | 6 => pointwise [CUT]
  | 7 => pointwise [CUT]

theorem tile_at (v : FVec Ideal S512x128 .f32) (g : Vec Ideal S1x128 .f32) (r : Fin 512) (d : Fin 128) : TILE v g (ix2 r d)
    = v (ix2 r d) * Ideal.rsqrt (Ideal.div (∑ x, v (ix2 r x) * v (ix2 r x)) (Ideal.ofBits .f32 0x43000000#32) + Ideal.ofBits .f32 0x358637BD#32) * g (ix2 0 d) := by
  pointwise [TILE]

theorem side_at (T : Fin 8 → FVec Ideal S512x128 .bf16) (r : Fin 512) (j : Fin 8) (d : Fin 128) :
    SIDE T (ix2 r ⟨j.val * 128 + d.val, by omega⟩) = T j (ix2 r d) := by
  pointwise [SIDE]
  split_ifs
  all_goals try (exfalso; omega)
  · obtain rfl : j = 0 := Fin.ext (by show j.val = 0; omega)
    exact congrArg (fun e => T 0 (ix2 r e)) (Fin.ext (by show 0 * 128 + d.val = d.val; omega))
  · obtain rfl : j = 1 := Fin.ext (by show j.val = 1; omega)
    exact congrArg (fun e => T 1 (ix2 r e)) (Fin.ext (by show 1 * 128 + d.val - 128 = d.val; omega))
  · obtain rfl : j = 2 := Fin.ext (by show j.val = 2; omega)
    exact congrArg (fun e => T 2 (ix2 r e)) (Fin.ext (by show 2 * 128 + d.val - 128 - 128 = d.val; omega))
  · obtain rfl : j = 3 := Fin.ext (by show j.val = 3; omega)
    exact congrArg (fun e => T 3 (ix2 r e)) (Fin.ext (by show 3 * 128 + d.val - 128 - 128 - 128 = d.val; omega))
  · obtain rfl : j = 4 := Fin.ext (by show j.val = 4; omega)
    exact congrArg (fun e => T 4 (ix2 r e)) (Fin.ext (by show 4 * 128 + d.val - 128 - 128 - 128 - 128 = d.val; omega))
  · obtain rfl : j = 5 := Fin.ext (by show j.val = 5; omega)
    exact congrArg (fun e => T 5 (ix2 r e)) (Fin.ext (by show 5 * 128 + d.val - 128 - 128 - 128 - 128 - 128 = d.val; omega))
  · obtain rfl : j = 6 := Fin.ext (by show j.val = 6; omega)
    exact congrArg (fun e => T 6 (ix2 r e)) (Fin.ext (by show 6 * 128 + d.val - 128 - 128 - 128 - 128 - 128 - 128 = d.val; omega))
  · obtain rfl : j = 7 := Fin.ext (by show j.val = 7; omega)
    exact congrArg (fun e => T 7 (ix2 r e)) (Fin.ext (by show 7 * 128 + d.val - 128 - 128 - 128 - 128 - 128 - 128 - 128 = d.val; omega))

/-- An entry of the grouped norm. -/
theorem norms_at (g : Fin 8 → Vec Ideal S1x128 .f32) (r : Fin 512) (j : Fin 8) (d : Fin 128) :
    NORMS X g (ix2 r ⟨j.val * 128 + d.val, by omega⟩)
      = X (ix2 r ⟨j.val * 128 + d.val, by omega⟩) * Ideal.rsqrt (Ideal.div (∑ x : Fin 128, X (ix2 r ⟨j.val * 128 + x.val, by omega⟩) * X (ix2 r ⟨j.val * 128 + x.val, by omega⟩)) (Ideal.ofBits .f32 0x43000000#32)
        + Ideal.ofBits .f32 0x358637BD#32) * g j (ix2 0 d) := by
  refine (side_at (fun j => TILE (CUT X j) (g j)) r j d).trans ((tile_at _ _ r d).trans ?_)
  simp only [cut_at]

end Cert.KernelMixIdeal.Mix

end
-- ==== Proof.MixRef.lean ====
/-
  The reference of the output projection, stage by stage, and what an entry of each stage is.
-/
module

public import proofs.«01_k».proof.Proof.Gen.ReferenceMixIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ReferenceMixIdeal.Mix

open Cert.ReferenceMixIdeal Cert.ReferenceMixIdeal.Gen

/-- The two mixers' outputs side by side. -/
abbrev CAT (a0 : FVec Ideal S8192x1024 .f32) (a1 : FVec Ideal S2x4096x1024 .f32) : FVec Ideal S2x4096x2048 .f32 :=
  concatenate S2x4096x2048 2 [⟨S2x4096x1024, shapeCast S2x4096x1024 a0 shapeCasts_S8192x1024_S2x4096x1024⟩, ⟨S2x4096x1024, a1⟩] concatenates_S2x4096x1024_S2x4096x1024_S2x4096x2048_d2

/-- Sixteen groups of 128 channels, each over the root of its mean square. -/
abbrev RMS (G4 : FVec Ideal S2x4096x16x128 .f32) : FVec Ideal S2x4096x16x128 .f32 :=
  mulf G4 (broadcastInDim S2x4096x16x128 ![0, 1, 2, 3] bcast_S2x4096x16x1_S2x4096x16x128_0_1_2_3 (Host.rsqrt (addf
    (Host.divf (broadcastInDim S2x4096x16x1 ![0, 1, 2] bcast_S2x4096x16_S2x4096x16x1_0_1_2 (Host.reduceAdd (mulf G4 G4) (constant S_ .f32 0x00000000#32) reducesTo_S2x4096x16x128_S2x4096x16_d3 h_S_))
      (broadcastInDim S2x4096x16x1 ![] bcast_S_S2x4096x16x1 (constant S_ .f32 0x43000000#32)))
    (broadcastInDim S2x4096x16x1 ![] bcast_S_S2x4096x16x1 (constant S_ .f32 0x358637BD#32)))))

/-- A row of weights repeated for every token. -/
abbrev ROW (g : FVec Ideal S1x2048 .f32) : FVec Ideal S2x4096x2048 .f32 :=
  broadcastInDim S2x4096x2048 ![0, 1, 2] bcast_S1x1x2048_S2x4096x2048_0_1_2 (broadcastInDim S1x1x2048 ![2] bcast_S2048_S1x1x2048_2 (shapeCast S2048 g shapeCasts_S1x2048_S2048))

/-- The grouped norm. -/
abbrev NRM (R : FVec Ideal S2x4096x2048 .f32) (g : FVec Ideal S1x2048 .f32) : FVec Ideal S2x4096x2048 .f32 :=
  mulf (shapeCast S2x4096x2048 (RMS (shapeCast S2x4096x16x128 R shapeCasts_S2x4096x2048_S2x4096x16x128)) shapeCasts_S2x4096x16x128_S2x4096x2048) (ROW g)

/-- The output projection. -/
abbrev DOT (N : FVec Ideal S2x4096x2048 .f32) (w : FVec Ideal S1x2048x2048 .f32) : FVec Ideal S2x4096x2048 .f32 :=
  Host.dotGeneral dot_S2x4096x2048_S2048x2048_S2x4096x2048_2_0_01_1_n_n none N (shapeCast S2048x2048 w shapeCasts_S1x2048x2048_S2048x2048)

/-- The residual stream, scaled, and the mixers' output. -/
abbrev RES (h : FVec Ideal S8192x2048 .f32) (D : FVec Ideal S2x4096x2048 .f32) : FVec Ideal S2x4096x2048 .f32 :=
  addf (mulf (broadcastInDim S2x4096x2048 ![] bcast_S_S2x4096x2048 (constant S_ .f32 0x3F9837F0#32)) (shapeCast S2x4096x2048 h shapeCasts_S8192x2048_S2x4096x2048)) D

/-- Each token's mean, as a column. -/
abbrev MEAN (z : FVec Ideal S2x4096x2048 .f32) : FVec Ideal S2x4096x1 .f32 :=
  Host.divf (broadcastInDim S2x4096x1 ![0, 1] bcast_S2x4096_S2x4096x1_0_1 (Host.reduceAdd z (constant S_ .f32 0x00000000#32) reducesTo_S2x4096x2048_S2x4096_d2 h_S_))
    (broadcastInDim S2x4096x1 ![] bcast_S_S2x4096x1 (constant S_ .f32 0x45000000#32))

/-- Each entry less its token's mean. -/
abbrev CEN (z : FVec Ideal S2x4096x2048 .f32) : FVec Ideal S2x4096x2048 .f32 :=
  subf z (broadcastInDim S2x4096x2048 ![0, 1, 2] bcast_S2x4096x1_S2x4096x2048_0_1_2 (MEAN z))

/-- Layer normalisation. -/
abbrev LN (z : FVec Ideal S2x4096x2048 .f32) (g b : FVec Ideal S1x2048 .f32) : FVec Ideal S2x4096x2048 .f32 :=
  addf (mulf (mulf (CEN z) (broadcastInDim S2x4096x2048 ![0, 1, 2] bcast_S2x4096x1_S2x4096x2048_0_1_2
    (Host.rsqrt (addf (MEAN (mulf (CEN z) (CEN z))) (broadcastInDim S2x4096x1 ![] bcast_S_S2x4096x1 (constant S_ .f32 0x3727C5AC#32))))))
    (ROW g)) (ROW b)

/-- The whole reference, before its tokens are put in one row of 8192. -/
abbrev H1 (a0 : FVec Ideal S8192x1024 .f32) (a1 : FVec Ideal S2x4096x1024 .f32) (h : FVec Ideal S8192x2048 .f32) (mg : FVec Ideal S1x2048 .f32)
    (w : FVec Ideal S1x2048x2048 .f32) (g b : FVec Ideal S1x2048 .f32) : FVec Ideal S2x4096x2048 .f32 :=
  LN (RES h (DOT (NRM (CAT a0 a1) mg) w)) g b

theorem res_eq (m : (ℓ : Loc nD τ sig) → Buf (Elt Ideal) ℓ) (c : Dev nD) : Cert.ReferenceMixIdeal.Value.res_main_v50 m c
    = shapeCast S8192x2048 (H1 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))) shapeCasts_S2x4096x2048_S8192x2048 := rfl

theorem res_eq' (m : (ℓ : Loc nD τ sig) → Buf (Elt Ideal) ℓ) (c : Dev nD) : Cert.ReferenceMixIdeal.Value.res_main_v52 m c
    = (truncf .bf16 (transpose S2048x8192 [1, 0] (Cert.ReferenceMixIdeal.Value.res_main_v50 m c : FVec Ideal S8192x2048 .f32) transposes_S8192x2048_S2048x8192_1_0) bitsLt_bf16_f32 : FVec Ideal S2048x8192 .bf16) := rfl

variable (R : FVec Ideal S2x4096x2048 .f32) (g : FVec Ideal S1x2048 .f32) (b : Fin 2) (s : Fin 4096)

theorem cat_at (a0 : FVec Ideal S8192x1024 .f32) (a1 : FVec Ideal S2x4096x1024 .f32) (k : Fin 2048) :
    CAT a0 a1 (ix3 b s k) = if h : k.val < 1024 then a0 (ix2 ⟨b.val * 4096 + s.val, by omega⟩ ⟨k.val, h⟩) else a1 (ix3 b s ⟨k.val - 1024, by omega⟩) := by
  pointwise [CAT]

theorem rms_at (G4 : FVec Ideal S2x4096x16x128 .f32) (j : Fin 16) (d : Fin 128) : RMS G4 (ix4 b s j d)
    = G4 (ix4 b s j d) * Ideal.rsqrt (Ideal.div (∑ x, G4 (ix4 b s j x) * G4 (ix4 b s j x)) (Ideal.ofBits .f32 0x43000000#32) + Ideal.ofBits .f32 0x358637BD#32) := by
  pointwise [RMS]

theorem split_at (j : Fin 16) (d : Fin 128) : shapeCast S2x4096x16x128 R shapeCasts_S2x4096x2048_S2x4096x16x128 (ix4 b s j d) = R (ix3 b s ⟨j.val * 128 + d.val, by omega⟩) := by
  pointwise

theorem join_at (G4 : FVec Ideal S2x4096x16x128 .f32) (j : Fin 16) (d : Fin 128) :
    shapeCast S2x4096x2048 G4 shapeCasts_S2x4096x16x128_S2x4096x2048 (ix3 b s ⟨j.val * 128 + d.val, by omega⟩) = G4 (ix4 b s j d) := by
  pointwise

theorem row_at (k : Fin 2048) : ROW g (ix3 b s k) = g (ix2 0 k) := by
  pointwise [ROW]

theorem dot_at (N : FVec Ideal S2x4096x2048 .f32) (w : FVec Ideal S1x2048x2048 .f32) (o : Fin 2048) : DOT N w (ix3 b s o) = ∑ k, N (ix3 b s k) * w (ix3 0 k o) := by
  pointwise [DOT]

theorem res_at (h : FVec Ideal S8192x2048 .f32) (D : FVec Ideal S2x4096x2048 .f32) (o : Fin 2048) :
    RES h D (ix3 b s o) = Ideal.ofBits .f32 0x3F9837F0#32 * h (ix2 ⟨b.val * 4096 + s.val, by omega⟩ o) + D (ix3 b s o) := by
  pointwise [RES]

/-- An entry of the grouped norm. -/
theorem nrm_at (j : Fin 16) (d : Fin 128) :
    NRM R g (ix3 b s ⟨j.val * 128 + d.val, by omega⟩)
      = R (ix3 b s ⟨j.val * 128 + d.val, by omega⟩) * Ideal.rsqrt (Ideal.div (∑ x : Fin 128, R (ix3 b s ⟨j.val * 128 + x.val, by omega⟩) * R (ix3 b s ⟨j.val * 128 + x.val, by omega⟩))
        (Ideal.ofBits .f32 0x43000000#32) + Ideal.ofBits .f32 0x358637BD#32) * g (ix2 0 ⟨j.val * 128 + d.val, by omega⟩) := by
  refine (congrArg₂ (· * ·) ((join_at b s _ j d).trans (rms_at b s _ j d)) (row_at g b s _)).trans ?_
  simp only [split_at]

/-- One entry of a layer-normalised row `f`, by its place, its weight and its offset. -/
abbrev NORMED (f : Fin 2048 → EReal) (o : Fin 2048) (w e : EReal) : EReal :=
  (f o - Ideal.div (∑ x, f x) (Ideal.ofBits .f32 0x45000000#32))
    * Ideal.rsqrt (Ideal.div (∑ x, (f x - Ideal.div (∑ x, f x) (Ideal.ofBits .f32 0x45000000#32)) * (f x - Ideal.div (∑ x, f x) (Ideal.ofBits .f32 0x45000000#32)))
      (Ideal.ofBits .f32 0x45000000#32) + Ideal.ofBits .f32 0x3727C5AC#32) * w + e

theorem ln_at (z : FVec Ideal S2x4096x2048 .f32) (g e : FVec Ideal S1x2048 .f32) (o : Fin 2048) :
    LN z g e (ix3 b s o) = NORMED (fun k => z (ix3 b s k)) o (g (ix2 0 o)) (e (ix2 0 o)) := by
  pointwise [LN, MEAN, CEN]

end Cert.ReferenceMixIdeal.Mix

end
-- ==== Proof.MixEq.lean ====
/-
  The output projection's kernel and reference, entry by entry: both norms of a token's groups are the same, and the two sums over 1024
  channels are the one over 2048.
-/
module

public import proofs.«01_k».proof.Proof.MixKer
public import proofs.«01_k».proof.Proof.MixRef
public import Idealize.ShloMosaic.Lib.Quiescent
public import proofs.«01_k».proof.Defs
public import proofs.«01_k».proof.Proof.Gen.KernelMix.Frame

@[expose] public section

set_option maxRecDepth 16384

noncomputable section

open Idealize.ShloMosaic Idealize.ShloMosaic.TcCoe Idealize.SL.Sem
open Idealize.ShloMosaic.Pipeline (Dat)

namespace Cert.KernelMixIdeal.Mix

open Cert.KernelMixIdeal Cert.KernelMixIdeal.Gen
open Cert.ReferenceMixIdeal.Mix (CAT NRM DOT RES LN H1 NORMED)

/-- The kernel's residual and norm at an entry. -/
theorem pay1_at (M : FVec Ideal S512x2048 .f32) (H : Vec Ideal S512x2048 .f32) (g e : Vec Ideal S1x2048 .f32) (r : Fin 512) (o : Fin 2048) :
    k0_pay1 M H g e (ix2 r o) = NORMED (fun k => Ideal.ofBits .f32 0x3F9837F0#32 * H (ix2 r k) + M (ix2 r k)) o (g (ix2 0 o)) (e (ix2 0 o)) := by
  pointwise [k0_pay1]

/-- Half of the channels: the kernel's grouped norm is the reference's. -/
theorem half (h : Fin 2) (X : FVec Ideal S512x1024 .f32) (g : Fin 8 → Vec Ideal S1x128 .f32) (R : FVec Ideal Cert.ReferenceMixIdeal.S2x4096x2048 .f32) (G : FVec Ideal S1x2048 .f32)
    (r : Fin 512) (b : Fin 2) (s : Fin 4096) (hX : ∀ k : Fin 1024, X (ix2 r k) = R (ix3 b s ⟨h.val * 1024 + k.val, by omega⟩))
    (hg : ∀ (j : Fin 8) (d : Fin 128), g j (ix2 0 d) = G (ix2 0 ⟨h.val * 1024 + j.val * 128 + d.val, by omega⟩)) (k : Fin 1024) :
    NORMS X g (ix2 r k) = NRM R G (ix3 b s ⟨h.val * 1024 + k.val, by omega⟩) := by
  have e (d : ℕ) (h' : (h.val * 8 + k.val / 128) * 128 + d < 2048) :
      (⟨(h.val * 8 + k.val / 128) * 128 + d, h'⟩ : Fin 2048) = ⟨h.val * 1024 + (k.val / 128 * 128 + d), by omega⟩ := Fin.mk_eq_mk.2 (by omega)
  have e' (d : ℕ) (h' : h.val * 1024 + k.val / 128 * 128 + d < 2048) :
      (⟨h.val * 1024 + k.val / 128 * 128 + d, h'⟩ : Fin 2048) = ⟨h.val * 1024 + (k.val / 128 * 128 + d), by omega⟩ := Fin.mk_eq_mk.2 (by omega)
  have hN := norms_at X g r ⟨k.val / 128, by omega⟩ ⟨k.val % 128, by omega⟩
  have hR := Cert.ReferenceMixIdeal.Mix.nrm_at R G b s ⟨h.val * 8 + k.val / 128, by omega⟩ ⟨k.val % 128, by omega⟩
  simp only [hX, hg, e'] at hN
  simp only [e] at hR
  have ek : (⟨k.val / 128 * 128 + k.val % 128, by omega⟩ : Fin 1024) = k := Fin.ext (show k.val / 128 * 128 + k.val % 128 = k.val by omega)
  have ek' : (⟨h.val * 1024 + (k.val / 128 * 128 + k.val % 128), by omega⟩ : Fin 2048) = ⟨h.val * 1024 + k.val, by omega⟩ := Fin.mk_eq_mk.2 (by omega)
  exact (congrArg (fun a => NORMS X g (ix2 r a)) ek).symm.trans (hN.trans (hR.symm.trans (congrArg (fun a => NRM R G (ix3 b s a)) ek')))

/-- The two halves' products are the whole product. -/
theorem halves (A B : FVec Ideal S512x1024 .bf16) (W W' : Vec Ideal S1024x2048 .bf16) (N : FVec Ideal Cert.ReferenceMixIdeal.S2x4096x2048 .f32) (w : FVec Ideal S1x2048x2048 .f32)
    (r : Fin 512) (b : Fin 2) (s : Fin 4096) (o : Fin 2048)
    (hA : ∀ k : Fin 1024, A (ix2 r k) = N (ix3 b s ⟨0 * 1024 + k.val, by omega⟩)) (hB : ∀ k : Fin 1024, B (ix2 r k) = N (ix3 b s ⟨1 * 1024 + k.val, by omega⟩))
    (hW : ∀ k : Fin 1024, W (ix2 k o) = w (ix3 0 ⟨0 * 1024 + k.val, by omega⟩ o)) (hW' : ∀ k : Fin 1024, W' (ix2 k o) = w (ix3 0 ⟨1 * 1024 + k.val, by omega⟩ o)) :
    DOTS A B W W' (ix2 r o) = DOT N w (ix3 b s o) := by
  refine (dots_at A W W' B r o).trans (Eq.trans ?_ (Cert.ReferenceMixIdeal.Mix.dot_at b s _ _ o).symm)
  refine Eq.trans ?_ (Fin.sum_univ_add (a := 1024) (b := 1024) (fun k : Fin 2048 => N (ix3 b s k) * w (ix3 0 k o))).symm
  refine congrArg₂ (· + ·) (Finset.sum_congr rfl fun k _ => ?_) (Finset.sum_congr rfl fun k _ => ?_)
  · rw [hA, hW]
    have e : (⟨0 * 1024 + k.val, by omega⟩ : Fin 2048) = Fin.castAdd 1024 k := Fin.ext (by show 0 * 1024 + k.val = k.val; omega)
    rw [e]
  · rw [hB, hW']
    have e : (⟨1 * 1024 + k.val, by omega⟩ : Fin 2048) = Fin.natAdd 1024 k := Fin.ext (by show 1 * 1024 + k.val = 1024 + k.val; omega)
    rw [e]

/-- The kernel's row is the reference's. -/
theorem row_eq (X Y : FVec Ideal S512x1024 .f32) (g g' : Fin 8 → Vec Ideal S1x128 .f32) (W W' : Vec Ideal S1024x2048 .bf16) (H : Vec Ideal S512x2048 .f32) (p q : Vec Ideal S1x2048 .f32)
    (a0 : FVec Ideal S8192x1024 .f32) (a1 : FVec Ideal S2x4096x1024 .f32) (a2 : FVec Ideal S8192x2048 .f32) (a3 : FVec Ideal S1x2048 .f32)
    (a4 : FVec Ideal S1x2048x2048 .f32) (a5 a6 : FVec Ideal S1x2048 .f32) (r : Fin 512) (b : Fin 2) (s : Fin 4096) (o : Fin 2048)
    (hX : ∀ k : Fin 1024, X (ix2 r k) = a0 (ix2 ⟨b.val * 4096 + s.val, by omega⟩ k)) (hY : ∀ k : Fin 1024, Y (ix2 r k) = a1 (ix3 b s k))
    (hg : ∀ (j : Fin 8) (d : Fin 128), g j (ix2 0 d) = a3 (ix2 0 ⟨0 * 1024 + j.val * 128 + d.val, by omega⟩))
    (hg' : ∀ (j : Fin 8) (d : Fin 128), g' j (ix2 0 d) = a3 (ix2 0 ⟨1 * 1024 + j.val * 128 + d.val, by omega⟩))
    (hW : ∀ (k : Fin 1024) (o : Fin 2048), W (ix2 k o) = a4 (ix3 0 ⟨0 * 1024 + k.val, by omega⟩ o)) (hW' : ∀ (k : Fin 1024) (o : Fin 2048), W' (ix2 k o) = a4 (ix3 0 ⟨1 * 1024 + k.val, by omega⟩ o))
    (hH : ∀ k : Fin 2048, H (ix2 r k) = a2 (ix2 ⟨b.val * 4096 + s.val, by omega⟩ k)) (hp : p (ix2 0 o) = a5 (ix2 0 o)) (hq : q (ix2 0 o) = a6 (ix2 0 o)) :
    k0_pay1 (DOTS (NORMS X g) (NORMS Y g') W W') H p q (ix2 r o) = H1 a0 a1 a2 a3 a4 a5 a6 (ix3 b s o) := by
  refine (pay1_at _ _ _ _ r o).trans (Eq.trans ?_ (Cert.ReferenceMixIdeal.Mix.ln_at b s _ _ _ o).symm)
  rw [hp, hq]
  refine congrArg (fun f => NORMED f o (a5 (ix2 0 o)) (a6 (ix2 0 o))) (funext fun k => ?_)
  refine Eq.trans ?_ (Cert.ReferenceMixIdeal.Mix.res_at b s _ _ k).symm
  rw [hH]
  refine congrArg (fun e => Ideal.ofBits .f32 0x3F9837F0#32 * a2 (ix2 ⟨b.val * 4096 + s.val, by omega⟩ k) + e) ?_
  refine halves _ _ _ _ _ _ r b s k (half 0 X g _ _ r b s (fun k => ?_) hg) (half 1 Y g' _ _ r b s (fun k => ?_) hg') (fun l => hW l k) (fun l => hW' l k)
  · refine (hX k).trans (Eq.trans ?_ (Cert.ReferenceMixIdeal.Mix.cat_at b s _ _ _).symm)
    rw [dif_pos (show (0 : Fin 2).val * 1024 + k.val < 1024 by show 0 * 1024 + k.val < 1024; omega)]
    exact congrArg (fun e => a0 (ix2 ⟨b.val * 4096 + s.val, by omega⟩ e)) (Fin.ext (by show k.val = 0 * 1024 + k.val; omega))
  · refine (hY k).trans (Eq.trans ?_ (Cert.ReferenceMixIdeal.Mix.cat_at b s _ _ _).symm)
    rw [dif_neg (show ¬ ((1 : Fin 2).val * 1024 + k.val < 1024) by show ¬ (1 * 1024 + k.val < 1024); omega)]
    exact congrArg (fun e => a1 (ix3 b s e)) (Fin.ext (by show k.val = 1 * 1024 + k.val - 1024; omega))

end Cert.KernelMixIdeal.Mix

end
-- ==== Proof.MixBlocks.lean ====
/-
  What the blocks of the output projection's kernel hold at a grid point, in terms of the arguments.
-/
module

public import proofs.«01_k».proof.Proof.MixKer
public import proofs.«01_k».proof.Proof.MixRef
public import Idealize.ShloMosaic.Lib.Quiescent
public import proofs.«01_k».proof.Defs
public import proofs.«01_k».proof.Proof.Gen.KernelMix.Frame

@[expose] public section

set_option maxRecDepth 16384

noncomputable section

open Idealize.ShloMosaic Idealize.ShloMosaic.TcCoe Idealize.SL.Sem
open Idealize.ShloMosaic.Pipeline (Dat)

namespace Cert.KernelMixIdeal.Mix

open Cert.KernelMixIdeal Cert.KernelMixIdeal.Gen
open Cert.ReferenceMixIdeal.Mix (CAT NRM DOT RES LN H1 NORMED)

variable (m : (ℓ : Loc nD τ sig) → Buf (Elt Ideal) ℓ)

/-- The reference's term of the arguments. -/
abbrev OUT (c : Dev nD) : FVec Ideal S8192x2048 .f32 :=
  shapeCast S8192x2048 (H1 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)))
    Cert.ReferenceMixIdeal.Gen.shapeCasts_S2x4096x2048_S8192x2048

/-- Where the windows' blocks lie at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![0, t.val] :=
  (by decide +kernel : ∀ t : Fin grid0.N, _)

theorem V_y (c : Dev nD) : V m c main_v0 = shapeCast S8192x1024 (m ((c.tc : Thread nD τ).loc main_arg1) : FVec Ideal S2x4096x1024 .f32) shapeCasts_S2x4096x1024_S8192x1024 := by
  entry_read; rfl
theorem V_g (c : Dev nD) : V m c main_v6 = shapeCast S1x2048 (shapeCast S2048 (m ((c.tc : Thread nD τ).loc main_arg3) : FVec Ideal S1x2048 .f32) shapeCasts_S1x2048_S2048) shapeCasts_S2048_S1x2048 := by
  entry_read; rfl
theorem V_p (c : Dev nD) : V m c main_v7 = shapeCast S1x2048 (shapeCast S2048 (m ((c.tc : Thread nD τ).loc main_arg5) : FVec Ideal S1x2048 .f32) shapeCasts_S1x2048_S2048) shapeCasts_S2048_S1x2048 := by
  entry_read; rfl
theorem V_q (c : Dev nD) : V m c main_v8 = shapeCast S1x2048 (shapeCast S2048 (m ((c.tc : Thread nD τ).loc main_arg6) : FVec Ideal S1x2048 .f32) shapeCasts_S1x2048_S2048) shapeCasts_S2048_S1x2048 := by
  entry_read; rfl
theorem V_w (c : Dev nD) : V m c main_v3 = (truncf .bf16 (shapeCast S2048x2048 (m ((c.tc : Thread nD τ).loc main_arg4) : FVec Ideal S1x2048x2048 .f32) shapeCasts_S1x2048x2048_S2048x2048) bitsLt_bf16_f32 : FVec Ideal S2048x2048 .bf16) := by
  entry_read; rfl

/-- A token row of an array laid out by sequence. -/
theorem rows (X : FVec Ideal S2x4096x1024 .f32) (i : S8192x1024.Idx) (j : S2x4096x1024.Idx)
    (h0 : (j 0).val = (i 0).val / 4096) (h1 : (j 1).val = (i 0).val % 4096) (h2 : (j 2).val = (i 1).val) :
    shapeCast S8192x1024 X shapeCasts_S2x4096x1024_S8192x1024 i = X j := by
  pointwise
  blk_ext

/-- The same of an array of all 2048 channels. -/
theorem rows' (X : FVec Ideal Cert.ReferenceMixIdeal.S2x4096x2048 .f32) (i : S8192x2048.Idx) (j : Cert.ReferenceMixIdeal.S2x4096x2048.Idx)
    (h0 : (j 0).val = (i 0).val / 4096) (h1 : (j 1).val = (i 0).val % 4096) (h2 : (j 2).val = (i 1).val) :
    shapeCast S8192x2048 X Cert.ReferenceMixIdeal.Gen.shapeCasts_S2x4096x2048_S8192x2048 i = X j := by
  pointwise
  blk_ext

/-- A row of weights, taken out of its array of one row and put back. -/
theorem twice (X : FVec Ideal S1x2048 .f32) (i j : S1x2048.Idx) (h : (j 1).val = (i 1).val) :
    shapeCast S1x2048 (shapeCast S2048 X shapeCasts_S1x2048_S2048) shapeCasts_S2048_S1x2048 i = X j := by
  pointwise
  blk_ext

/-- The output weights of the only layer. -/
theorem layer (X : FVec Ideal S1x2048x2048 .f32) (i : S2048x2048.Idx) (j : S1x2048x2048.Idx) (h1 : (j 1).val = (i 0).val) (h2 : (j 2).val = (i 1).val) :
    (truncf .bf16 (shapeCast S2048x2048 X shapeCasts_S1x2048x2048_S2048x2048) bitsLt_bf16_f32 : FVec Ideal S2048x2048 .bf16) i = X j := by
  pointwise
  blk_ext

theorem x_at (c : Dev nD) (t : Fin cfg0.N) (i : S512x1024.Idx) (j : S8192x1024.Idx)
    (h0 : (j 0).val = t.val * 512 + (i 0).val) (h1 : (j 1).val = (i 1).val) : iblk m c 0 t i = m ((c.tc : Thread nD τ).loc main_arg0) j := by
  show m ((c.tc : Thread nD τ).loc main_arg0) (((cfg0.win 0).blk t).view.emb i) = _
  blk_ext [idx t]

theorem y_at (c : Dev nD) (t : Fin cfg0.N) (i : S512x1024.Idx) (j : S2x4096x1024.Idx)
    (h0 : (j 0).val = (t.val * 512 + (i 0).val) / 4096) (h1 : (j 1).val = (t.val * 512 + (i 0).val) % 4096) (h2 : (j 2).val = (i 1).val) :
    iblk m c 1 t i = m ((c.tc : Thread nD τ).loc main_arg1) j := by
  show V m c main_v0 (((cfg0.win 1).blk t).view.emb i) = _
  rw [V_y]
  refine rows _ _ _ ?_ ?_ ?_
  · rw [h0]; blk_simp [idx t]
  · rw [h1]; blk_simp [idx t]
  · rw [h2]; blk_simp [idx t]

theorem h_at (c : Dev nD) (t : Fin cfg0.N) (i : S512x2048.Idx) (j : S8192x2048.Idx)
    (h0 : (j 0).val = t.val * 512 + (i 0).val) (h1 : (j 1).val = (i 1).val) : iblk m c 2 t i = m ((c.tc : Thread nD τ).loc main_arg2) j := by
  show m ((c.tc : Thread nD τ).loc main_arg2) (((cfg0.win 2).blk t).view.emb i) = _
  blk_ext [idx t]

theorem g_at (c : Dev nD) (t : Fin cfg0.N) (i : S1x2048.Idx) (j : S1x2048.Idx) (h : (j 1).val = (i 1).val) :
    iblk m c 3 t i = m ((c.tc : Thread nD τ).loc main_arg3) j := by
  show V m c main_v6 (((cfg0.win 3).blk t).view.emb i) = _
  rw [V_g]
  refine twice _ _ _ ?_
  rw [h]; blk_simp [idx t]

theorem w_at (c : Dev nD) (t : Fin cfg0.N) (i : S2048x2048.Idx) (j : S1x2048x2048.Idx) (h1 : (j 1).val = (i 0).val) (h2 : (j 2).val = (i 1).val) :
    iblk m c 4 t i = m ((c.tc : Thread nD τ).loc main_arg4) j := by
  show V m c main_v3 (((cfg0.win 4).blk t).view.emb i) = _
  rw [V_w]
  refine layer _ _ _ ?_ ?_
  · rw [h1]; blk_simp [idx t]
  · rw [h2]; blk_simp [idx t]

theorem p_at (c : Dev nD) (t : Fin cfg0.N) (i : S1x2048.Idx) (j : S1x2048.Idx) (h : (j 1).val = (i 1).val) :
    iblk m c 5 t i = m ((c.tc : Thread nD τ).loc main_arg5) j := by
  show V m c main_v7 (((cfg0.win 5).blk t).view.emb i) = _
  rw [V_p]
  refine twice _ _ _ ?_
  rw [h]; blk_simp [idx t]

theorem q_at (c : Dev nD) (t : Fin cfg0.N) (i : S1x2048.Idx) (j : S1x2048.Idx) (h : (j 1).val = (i 1).val) :
    iblk m c 6 t i = m ((c.tc : Thread nD τ).loc main_arg6) j := by
  show V m c main_v8 (((cfg0.win 6).blk t).view.emb i) = _
  rw [V_q]
  refine twice _ _ _ ?_
  rw [h]; blk_simp [idx t]

end Cert.KernelMixIdeal.Mix

end
-- ==== Proof.Mix.lean ====
/-
  The mixers' output projection: the two mixers' outputs side by side, each group of 128 channels over the root of its mean square, times
  the output weights, plus the scaled residual stream, layer-normalised. Each grid point takes 512 tokens and keeps the two mixers' halves
  apart, so its product is two sums over 1024 channels; the reference's is one over 2048. The second result is the same array turned to
  rows of channels and cast to the narrower float, which over the extended reals is the same value.
-/
module

public import proofs.«01_k».proof.Proof.MixEq
public import proofs.«01_k».proof.Proof.MixBlocks
public import proofs.«01_k».proof.Proof.Gen.ReferenceMixIdeal.Run
public import Idealize.ShloMosaic.Lib.Quiescent
public import proofs.«01_k».proof.Defs
public import proofs.«01_k».proof.Proof.Gen.KernelMix.Frame

@[expose] public section

set_option maxRecDepth 16384
set_option maxHeartbeats 1000000

noncomputable section

open Idealize.ShloMosaic Idealize.ShloMosaic.TcCoe Idealize.SL.Sem
open Idealize.ShloMosaic.Pipeline (Dat)

namespace Cert.KernelMixIdeal.Mix

open Cert.KernelMixIdeal Cert.KernelMixIdeal.Gen
open Cert.ReferenceMixIdeal.Mix (CAT NRM DOT RES LN H1 NORMED)

variable (m : (ℓ : Loc nD τ sig) → Buf (Elt Ideal) ℓ)

/-- A cast to the shape it has changes nothing. -/
theorem whole (X : Vec Ideal S512x1024 .f32) (i : S512x1024.Idx) : k0_pay15 X i = X i := by
  pointwise [k0_pay15]

/-- What a point stores at an entry of its block is the reference's value at that token and channel. -/
theorem point (c : Dev nD) (t : Fin cfg0.N) (y : S512x2048.Idx) (z : S8192x2048.Idx) (h0 : (z 0).val = t.val * 512 + (y 0).val) (h1 : (z 1).val = (y 1).val) :
    k0_pay1 (k0_pay27 (iblk m c 0 t) (iblk m c 1 t) (iblk m c 2 t) (iblk m c 3 t) (iblk m c 4 t) (iblk m c 5 t) (iblk m c 6 t)) (iblk m c 2 t) (iblk m c 5 t) (iblk m c 6 t) y = OUT m c z := by
  have ht : t.val < 16 := t.isLt
  have hy0 : (y 0).val < 512 := (y 0).isLt
  have hy1 : (y 1).val < 2048 := (y 1).isLt
  have ey : y = ix2 (y 0) (y 1) := funext fun a => match a with | 0 => rfl | 1 => rfl
  rw [ey]
  unfold k0_pay27 k0_pay26
  rw [first_eq, both_eq]
  refine (row_eq _ _ _ _ _ _ _ _ _ (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (y 0) ⟨(t.val * 512 + (y 0).val) / 4096, by omega⟩ ⟨(t.val * 512 + (y 0).val) % 4096, by omega⟩ (y 1) ?_ ?_ ?_ ?_ ?_ ?_ ?_ ?_ ?_).trans
    (rows' _ z (ix3 ⟨(t.val * 512 + (y 0).val) / 4096, by omega⟩ ⟨(t.val * 512 + (y 0).val) % 4096, by omega⟩ (y 1)) ?_ ?_ ?_).symm
  · exact fun k => x_at m c t _ _ (show (t.val * 512 + (y 0).val) / 4096 * 4096 + (t.val * 512 + (y 0).val) % 4096 = t.val * 512 + (0 + 1 * (y 0).val) by omega) (show k.val = 0 + 1 * k.val by omega)
  · exact fun k => (whole _ _).trans (y_at m c t _ _ (show (t.val * 512 + (y 0).val) / 4096 = (t.val * 512 + (0 + 1 * (y 0).val)) / 4096 by omega)
      (show (t.val * 512 + (y 0).val) % 4096 = (t.val * 512 + (0 + 1 * (y 0).val)) % 4096 by omega) (show k.val = 0 + 1 * k.val by omega))
  · exact fun j d => match j with
    | 0 => g_at m c t _ _ (show 0 * 1024 + 0 * 128 + d.val = 0 + 1 * d.val by omega)
    | 1 => g_at m c t _ _ (show 0 * 1024 + 1 * 128 + d.val = 128 + 1 * d.val by omega)
    | 2 => g_at m c t _ _ (show 0 * 1024 + 2 * 128 + d.val = 256 + 1 * d.val by omega)
    | 3 => g_at m c t _ _ (show 0 * 1024 + 3 * 128 + d.val = 384 + 1 * d.val by omega)
    | 4 => g_at m c t _ _ (show 0 * 1024 + 4 * 128 + d.val = 512 + 1 * d.val by omega)
    | 5 => g_at m c t _ _ (show 0 * 1024 + 5 * 128 + d.val = 640 + 1 * d.val by omega)
    | 6 => g_at m c t _ _ (show 0 * 1024 + 6 * 128 + d.val = 768 + 1 * d.val by omega)
    | 7 => g_at m c t _ _ (show 0 * 1024 + 7 * 128 + d.val = 896 + 1 * d.val by omega)
  · exact fun j d => match j with
    | 0 => g_at m c t _ _ (show 1 * 1024 + 0 * 128 + d.val = 1024 + 1 * d.val by omega)
    | 1 => g_at m c t _ _ (show 1 * 1024 + 1 * 128 + d.val = 1152 + 1 * d.val by omega)
    | 2 => g_at m c t _ _ (show 1 * 1024 + 2 * 128 + d.val = 1280 + 1 * d.val by omega)
    | 3 => g_at m c t _ _ (show 1 * 1024 + 3 * 128 + d.val = 1408 + 1 * d.val by omega)
    | 4 => g_at m c t _ _ (show 1 * 1024 + 4 * 128 + d.val = 1536 + 1 * d.val by omega)
    | 5 => g_at m c t _ _ (show 1 * 1024 + 5 * 128 + d.val = 1664 + 1 * d.val by omega)
    | 6 => g_at m c t _ _ (show 1 * 1024 + 6 * 128 + d.val = 1792 + 1 * d.val by omega)
    | 7 => g_at m c t _ _ (show 1 * 1024 + 7 * 128 + d.val = 1920 + 1 * d.val by omega)
  · exact fun k o => w_at m c t _ _ (show 0 * 1024 + k.val = 0 + 1 * k.val by omega) (show o.val = 0 + 1 * o.val by omega)
  · exact fun k o => w_at m c t _ _ (show 1 * 1024 + k.val = 1024 + 1 * k.val by omega) (show o.val = 0 + 1 * o.val by omega)
  · exact fun k => h_at m c t _ _ (show (t.val * 512 + (y 0).val) / 4096 * 4096 + (t.val * 512 + (y 0).val) % 4096 = t.val * 512 + (y 0).val by omega) rfl
  · exact p_at m c t _ _ rfl
  · exact q_at m c t _ _ rfl
  · show (t.val * 512 + (y 0).val) / 4096 = (z 0).val / 4096
    rw [h0]
  · show (t.val * 512 + (y 0).val) % 4096 = (z 0).val % 4096
    rw [h0]
  · exact h1.symm

/-- The result array after the run. -/
theorem final (c : Dev nD) : (dats m 0 c).arrAt 7 (cfgs 0).N = OUT m c := by
  refine (dats m 0 c).arrAt_eq_of_covers 7 _ (by decide +kernel) fun t _ y => ?_
  blk_simp
  rw [after0_7]; frame_out
  exact point m c t _ _ (by blk_simp [idx t]) (by blk_simp [idx t])

/-- The turned copy at an entry. -/
theorem pay2_at (M : FVec Ideal S512x2048 .f32) (H : Vec Ideal S512x2048 .f32) (g e : Vec Ideal S1x2048 .f32) (o : Fin 2048) (r : Fin 512) :
    k0_pay2 M H g e (ix2 o r) = k0_pay1 M H g e (ix2 r o) := by
  pointwise [k0_pay2]

theorem turn_at (X : FVec Ideal S8192x2048 .f32) (i : S2048x8192.Idx) :
    (truncf .bf16 (transpose S2048x8192 [1, 0] X Cert.ReferenceMixIdeal.Gen.transposes_S8192x2048_S2048x8192_1_0) bitsLt_bf16_f32 : FVec Ideal S2048x8192 .bf16) i = X (ix2 (i 1) (i 0)) := by
  pointwise

/-- The turned narrow copy after the run. -/
theorem final' (c : Dev nD) : (dats m 0 c).arrAt 8 (cfgs 0).N
    = (truncf .bf16 (transpose S2048x8192 [1, 0] (OUT m c) Cert.ReferenceMixIdeal.Gen.transposes_S8192x2048_S2048x8192_1_0) bitsLt_bf16_f32 : FVec Ideal S2048x8192 .bf16) := by
  refine (dats m 0 c).arrAt_eq_of_covers 8 _ (by decide +kernel) fun t _ y => ?_
  blk_simp
  rw [after0_8]; frame_out
  have ey : y = ix2 (y 0) (y 1) := funext fun a => match a with | 0 => rfl | 1 => rfl
  refine Eq.trans ?_ (turn_at _ _).symm
  rw [ey]
  refine (pay2_at _ _ _ _ _ _).trans (point m c t _ _ ?_ ?_)
  · blk_simp [idx t]
  · blk_simp [idx t]

end Cert.KernelMixIdeal.Mix

namespace Cert.Proof.Mix

theorem frame_kernel : Cert.quiescent_KernelMix := fun m ρ _ => Cert.KernelMix.Gen.frame m ρ
theorem frame_ideal : Cert.quiescent_KernelMixIdeal := fun m ρ _ => Cert.KernelMixIdeal.Gen.frame m ρ
theorem frame_reference : Cert.quiescent_ReferenceMixIdeal := fun m ρ _ =>
  (θ_run Cert.ReferenceMixIdeal.defs _ _).mono (fun r h => ⟨fun c => (h c).2.2, sem_eq_zero_of_no_sems (by decide) r.2⟩)
    (Cert.ReferenceMixIdeal.Value.run (F := Ideal) m ρ)

/-- Kernel and reference leave the same two arrays over the extended reals. -/
theorem algebraic : Cert.algebraic_KernelMixIdeal_ReferenceMixIdeal := by
  pair_intro
  · run_from Cert.KernelMixIdeal.Gen.run_main m g
  · refine (θ_run Cert.ReferenceMixIdeal.defs _ _).mono (fun r h c => ⟨(h c).1.trans ?_, (h c).2.1.trans ?_, (h c).2.2⟩) (Cert.ReferenceMixIdeal.Value.run (F := Ideal) m' g')
    · refine (Cert.ReferenceMixIdeal.Mix.res_eq m' c).trans (Eq.trans ?_ (Cert.KernelMixIdeal.Mix.final m c).symm)
      rw [(hagree c).1, (hagree c).2.1, (hagree c).2.2.1, (hagree c).2.2.2.1, (hagree c).2.2.2.2.1, (hagree c).2.2.2.2.2.1, (hagree c).2.2.2.2.2.2]
    · refine (Cert.ReferenceMixIdeal.Mix.res_eq' m' c).trans (Eq.trans ?_ (Cert.KernelMixIdeal.Mix.final' m c).symm)
      rw [Cert.ReferenceMixIdeal.Mix.res_eq, (hagree c).1, (hagree c).2.1, (hagree c).2.2.1, (hagree c).2.2.2.1, (hagree c).2.2.2.2.1, (hagree c).2.2.2.2.2.1, (hagree c).2.2.2.2.2.2]

end Cert.Proof.Mix

end
-- ==== Proof.ResLn.lean ====
/-
  The last call: the residual sum of the scaled stream and the experts' output, then layer normalisation. Each grid point takes 512
  tokens (of the experts' output, kept by channel, the matching columns) and normalises each over its 2048 channels.
-/
module

public import proofs.«01_k».proof.Proof.Gen.KernelResLnIdeal.Frame
public import proofs.«01_k».proof.Proof.Gen.ReferenceResLnIdeal.Run
public import Idealize.ShloMosaic.Lib.Pipeline.ValueKit
public import Idealize.ShloMosaic.Lib.Claim
public import Idealize.ShloMosaic.Lib.Quiescent
public import proofs.«01_k».proof.Defs
public import proofs.«01_k».proof.Proof.Gen.KernelResLn.Frame

@[expose] public section

set_option maxRecDepth 16384

noncomputable section

open Idealize.ShloMosaic Idealize.ShloMosaic.TcCoe Idealize.SL.Sem
open Idealize.ShloMosaic.Pipeline (Dat)

/-! ## The reference's term -/

namespace Cert.ReferenceResLnIdeal.Norm

open Cert.ReferenceResLnIdeal Cert.ReferenceResLnIdeal.Gen

/-- The scaled stream plus the experts' output, turned to rows of channels. -/
abbrev RES (h : FVec Ideal S8192x2048 .f32) (f : FVec Ideal S2048x8192 .f32) : FVec Ideal S8192x2048 .f32 :=
  addf (mulf (broadcastInDim S8192x2048 ![] bcast_S_S8192x2048 (constant S_ .f32 0x3F9837F0#32)) h)
    (transpose S8192x2048 [1, 0] f transposes_S2048x8192_S8192x2048_1_0)

/-- Each row's mean, as a column. -/
abbrev MEAN (z : FVec Ideal S8192x2048 .f32) : FVec Ideal S8192x1 .f32 :=
  Host.divf (broadcastInDim S8192x1 ![0] bcast_S8192_S8192x1_0 (Host.reduceAdd z (constant S_ .f32 0x00000000#32) reducesTo_S8192x2048_S8192_d1 h_S_))
    (broadcastInDim S8192x1 ![] bcast_S_S8192x1 (constant S_ .f32 0x45000000#32))

/-- Each entry less its row's mean. -/
abbrev CEN (z : FVec Ideal S8192x2048 .f32) : FVec Ideal S8192x2048 .f32 :=
  subf z (broadcastInDim S8192x2048 ![0, 1] bcast_S8192x1_S8192x2048_0_1 (MEAN z))

/-- A weight row repeated for every token. -/
abbrev ROW (g : FVec Ideal S1x2048 .f32) : FVec Ideal S8192x2048 .f32 :=
  broadcastInDim S8192x2048 ![0, 1] bcast_S1x2048_S8192x2048_0_1 (broadcastInDim S1x2048 ![1] bcast_S2048_S1x2048_1
    (shapeCast S2048 g shapeCasts_S1x2048_S2048))

/-- Layer normalisation of the residual sum. -/
abbrev REF (h : FVec Ideal S8192x2048 .f32) (f : FVec Ideal S2048x8192 .f32) (g b : FVec Ideal S1x2048 .f32) : FVec Ideal S8192x2048 .f32 :=
  addf (mulf (mulf (CEN (RES h f)) (broadcastInDim S8192x2048 ![0, 1] bcast_S8192x1_S8192x2048_0_1
    (Host.rsqrt (addf (MEAN (mulf (CEN (RES h f)) (CEN (RES h f)))) (broadcastInDim S8192x1 ![] bcast_S_S8192x1 (constant S_ .f32 0x3727C5AC#32))))))
    (ROW g)) (ROW b)

end Cert.ReferenceResLnIdeal.Norm

/-! ## The kernel -/

namespace Cert.KernelResLnIdeal.Norm

open Cert.KernelResLnIdeal Cert.KernelResLnIdeal.Gen
open Cert.ReferenceResLnIdeal.Norm (RES MEAN CEN ROW REF)

variable (m : (ℓ : Loc nD τ sig) → Buf (Elt Ideal) ℓ)

/-- The reference's term of the arguments. -/
abbrev OUT (c : Dev nD) : FVec Ideal S8192x2048 .f32 :=
  REF (m ((c : Thread nD τ).loc main_arg0)) (m ((c : Thread nD τ).loc main_arg1)) (m ((c : Thread nD τ).loc main_arg2)) (m ((c : Thread nD τ).loc main_arg3))

/-- Where the windows' blocks lie at a point. -/
theorem idx : ∀ t : Fin cfg0.N, win0_0.index t = ![t.val, 0] ∧ win0_1.index t = ![0, t.val] ∧ win0_2.index t = ![0, 0]
    ∧ win0_3.index t = ![0, 0] ∧ win0_4.index t = ![t.val, 0] :=
  (by decide +kernel : ∀ t : Fin grid0.N, _)

/-- What a point stores at an entry of its block is the reference's value at that entry of the array. -/
theorem point (c : Dev nD) (t : Fin cfg0.N) (y : S512x2048.Idx) :
    k0_pay1 (F := Ideal) (iblk m c 0 t) (iblk m c 1 t) (iblk m c 2 t) (iblk m c 3 t) y = OUT m c (((cfg0.win 4).blk t).view.emb y) := by
  pointwise [k0_pay1, OUT, REF, ROW, CEN, MEAN, RES]
  blk_point [iblk, V, idx t]

/-- The result array after the run. -/
theorem final (c : Dev nD) : (dats m 0 c).arrAt 4 (cfgs 0).N = OUT m c := by
  refine (dats m 0 c).arrAt_eq_of_covers 4 _ (by decide +kernel) fun t _ y => ?_
  blk_simp
  rw [after0_4]; frame_out
  exact point m c t y

end Cert.KernelResLnIdeal.Norm

namespace Cert.Proof.ResLn

theorem frame_kernel : Cert.quiescent_KernelResLn := fun m ρ _ => Cert.KernelResLn.Gen.frame m ρ
theorem frame_ideal : Cert.quiescent_KernelResLnIdeal := fun m ρ _ => Cert.KernelResLnIdeal.Gen.frame m ρ
theorem frame_reference : Cert.quiescent_ReferenceResLnIdeal := fun m ρ _ =>
  (θ_run Cert.ReferenceResLnIdeal.defs _ _).mono (fun r h => ⟨fun c => (h c).2, sem_eq_zero_of_no_sems (by decide) r.2⟩)
    (Cert.ReferenceResLnIdeal.Value.run (F := Ideal) m ρ)

/-- Kernel and reference normalise the same sum over the extended reals. -/
theorem algebraic : Cert.algebraic_KernelResLnIdeal_ReferenceResLnIdeal := by
  pair_intro
  · run_from Cert.KernelResLnIdeal.Gen.run_main m g
  · hlo_run
    exact (Cert.KernelResLnIdeal.Norm.final m c).symm

end Cert.Proof.ResLn

end
-- ==== Proof.FilKer.lean ====
/-
  What one grid point of the filters' kernel computes from its blocks: an entry of the product and of the decay.
-/
module

public import proofs.«01_k».proof.Proof.Gen.KernelFiltersIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelFiltersIdeal.Filters

open Cert.KernelFiltersIdeal Cert.KernelFiltersIdeal.Gen

/-- A hidden layer of 512 positions. -/
abbrev LAYER (X : FVec Ideal S512x64 .f32) (w : Vec Ideal S64x64 .f32) (b q : Vec Ideal S1x64 .f32) : FVec Ideal S512x64 .f32 :=
  sin (mulf (broadcastTo S512x64 (shapeCast S1x64 q shapeCasts_S1x64_S1x64) broadcasts_S1x64_S512x64)
    (addf (matmul dot_S512x64_S64x64_S512x64_1_0_0_1_n_n (some .fp32) X (φ₂ := .f32) (shapeCast S64x64 w shapeCasts_S64x64_S64x64) (constant S512x64 .f32 0x00000000#32))
      (broadcastTo S512x64 (shapeCast S1x64 b shapeCasts_S1x64_S1x64) broadcasts_S1x64_S512x64)))

/-- The filters of 512 positions, before their decay. -/
abbrev OUTS (X : FVec Ideal S512x64 .f32) (w : Vec Ideal S1x64x2048 .bf16) : FVec Ideal S512x2048 .f32 :=
  matmul dot_S512x64_S64x2048_S512x2048_1_0_0_1_n_n none (truncf .bf16 X bitsLt_bf16_f32) (φ₂ := .bf16) (shapeCast S64x2048 w shapeCasts_S1x64x2048_S64x2048) (constant S512x2048 .f32 0x00000000#32)

variable (r : Fin 512) (k : Fin 64) (e : Fin 2048)

theorem pay2_eq (z : Vec Ideal S512x64 .f32) (w1 w2 : Vec Ideal S64x64 .f32) (b1 q1 b2 q2 : Vec Ideal S1x64 .f32) (w3 : Vec Ideal S1x64x2048 .bf16) :
    k0_pay2 z w1 b1 q1 w2 b2 q2 w3 = OUTS (LAYER (LAYER (shapeCast S512x64 z shapeCasts_S512x64_S512x64) w1 b1 q1) w2 b2 q2) w3 := rfl

theorem layer_at (X : FVec Ideal S512x64 .f32) (w : Vec Ideal S64x64 .f32) (b q : Vec Ideal S1x64 .f32) :
    LAYER X w b q (ix2 r k) = Ideal.sin (q (ix2 0 k) * ((∑ x, X (ix2 r x) * w (ix2 x k)) + b (ix2 0 k))) := by
  pointwise [LAYER]

theorem outs_at (X : FVec Ideal S512x64 .f32) (w : Vec Ideal S1x64x2048 .bf16) :
    OUTS X w (ix2 r e) = ∑ k, X (ix2 r k) * w (ix3 0 k e) := by
  pointwise [OUTS]

/-- The word a row of the filters turns into a lag. -/
abbrev LAG (j : BitVec 32) : BitVec 32 := Scalar.select (IntOp.cmpi .slt j 4096#32) j (IntOp.andi (IntOp.subi 8192#32 j) 4095#32)

theorem pay1_at (H : FVec Ideal S512x2048 .f32) (i : grid0.Coords) (d : Vec Ideal S1x2048 .f32) :
    k0_pay1 H (k0_pay3 i) (k0_pay4 i) 8192#32 d (ix2 r e)
    = H (ix2 r e) * Ideal.exp (-(Ideal.div (FloatOps.sitofp (F := Ideal) FTy.f32 (LAG (BitVec.ofNat 32 r.val + BitVec.ofNat 32 (i 0).val * 512#32))) (Ideal.ofBits .f32 0x457FF000#32)) * d (ix2 0 e)) := by
  pointwise [k0_pay1, k0_pay3, k0_pay4]
  rw [zero_sub]
  rfl

/-- The word of row `j` of the filters. -/
theorem word (t : ℕ) (ht : t < 16) : BitVec.ofNat 32 r.val + BitVec.ofNat 32 t * 512#32 = BitVec.ofNat 32 (t * 512 + r.val) := by
  apply BitVec.eq_of_toNat_eq
  simp only [BitVec.toNat_add, BitVec.toNat_mul, BitVec.toNat_ofNat]
  omega

/-- The lag of row `j` of the filters. -/
theorem lag : ∀ j : Fin 8192, LAG (BitVec.ofNat 32 j.val) = BitVec.ofNat 32 (if j.val < 4096 then j.val else (8192 - j.val) % 4096) := by
  decide +kernel

end Cert.KernelFiltersIdeal.Filters

end
-- ==== Proof.FilRef.lean ====
/-
  The reference of the long-convolution filters, stage by stage, and what an entry of each stage is.
-/
module

public import proofs.«01_k».proof.Proof.Gen.ReferenceFiltersIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ReferenceFiltersIdeal.Filters

open Cert.ReferenceFiltersIdeal Cert.ReferenceFiltersIdeal.Gen

/-- A row of 64 values repeated for every position. -/
abbrev ROW (b : FVec Ideal S1x64 .f32) : FVec Ideal S4096x64 .f32 :=
  broadcastInDim S4096x64 ![0, 1] bcast_S1x64_S4096x64_0_1 (broadcastInDim S1x64 ![1] bcast_S64_S1x64_1 (shapeCast S64 b shapeCasts_S1x64_S64))

/-- The first hidden layer. -/
abbrev HID1 (z : FVec Ideal S4096x33 .f32) (w : FVec Ideal S1x33x64 .f32) (b q : FVec Ideal S1x64 .f32) : FVec Ideal S4096x64 .f32 :=
  Host.sin (mulf (ROW q) (addf (Host.dotGeneral dot_S4096x33_S33x64_S4096x64_1_0_0_1_n_n none z (shapeCast S33x64 w shapeCasts_S1x33x64_S33x64)) (ROW b)))

/-- The second hidden layer. -/
abbrev HID2 (X : FVec Ideal S4096x64 .f32) (w : FVec Ideal S1x64x64 .f32) (b q : FVec Ideal S1x64 .f32) : FVec Ideal S4096x64 .f32 :=
  Host.sin (mulf (ROW q) (addf (Host.dotGeneral dot_S4096x64_S64x64_S4096x64_1_0_0_1_n_n none X (shapeCast S64x64 w shapeCasts_S1x64x64_S64x64)) (ROW b)))

/-- The filters before their decay: position, order, direction, channel. -/
abbrev HEADS (X : FVec Ideal S4096x64 .f32) (w : FVec Ideal S1x64x4096 .f32) : FVec Ideal S4096x2x2x1024 .f32 :=
  shapeCast S4096x2x2x1024 (Host.dotGeneral dot_S4096x64_S64x4096_S4096x4096_1_0_0_1_n_n none X (shapeCast S64x4096 w shapeCasts_S1x64x4096_S64x4096)) shapeCasts_S4096x4096_S4096x2x2x1024

/-- The evenly spaced decay rates. -/
abbrev RATES : FVec Ideal S1024 .f32 :=
  concatenate S1024 0 [⟨S1023, (addf (mulf (broadcastInDim S1023 ![0] bcast_S1_S1023_0 (shapeCast S1 (id (constant S_ .f32 0xC0447CBD#32)) shapeCasts_S_S1)) (subf (broadcastInDim S1023 ![] bcast_S_S1023 (constant S_ .f32 0x3F800000#32)) (Host.divf (sitofp .f32 (iotaInDim S1023 32 0)) (broadcastInDim S1023 ![] bcast_S_S1023 (constant S_ .f32 0x447FC000#32)))))
    (mulf (broadcastInDim S1023 ![0] bcast_S1_S1023_0 (shapeCast S1 (id (constant S_ .f32 0xC1759BEC#32)) shapeCasts_S_S1)) (Host.divf (sitofp .f32 (iotaInDim S1023 32 0)) (broadcastInDim S1023 ![] bcast_S_S1023 (constant S_ .f32 0x447FC000#32)))) : FVec Ideal S1023 .f32)⟩,
    ⟨S1, (broadcastInDim S1 ![] bcast_S_S1 (id (constant S_ .f32 0xC1759BEC#32)) : FVec Ideal S1 .f32)⟩] concatenates_S1023_S1_S1024_d0

/-- The decay of each position and channel. -/
abbrev DECAY (d : FVec Ideal S1024 .f32) : FVec Ideal S4096x2x2x1024 .f32 :=
  broadcastInDim S4096x2x2x1024 ![0, 1, 2, 3] bcast_S4096x1x1x1024_S4096x2x2x1024_0_1_2_3 (broadcastInDim S4096x1x1x1024 ![0, 3] bcast_S4096x1024_S4096x1x1x1024_0_3
    (Host.exp (mulf (broadcastInDim S4096x1024 ![0, 1] bcast_S4096x1_S4096x1024_0_1 (Host.negf (broadcastInDim S4096x1 ![0] bcast_S4096_S4096x1_0
        (Host.divf (sitofp .f32 (iotaInDim S4096 32 0)) (broadcastInDim S4096 ![] bcast_S_S4096 (constant S_ .f32 0x457FF000#32))))))
      (broadcastInDim S4096x1024 ![0, 1] bcast_S1x1024_S4096x1024_0_1 (broadcastInDim S1x1024 ![1] bcast_S1024_S1x1024_1 (Host.absf d))))))

/-- The forward filters. -/
abbrev FWD (h : FVec Ideal S4096x2x2x1024 .f32) : FVec Ideal S4096x2x1024 .f32 :=
  shapeCast S4096x2x1024 (extractStridedSlice S4096x2x1x1024 ![0, 0, 0, 0] h slices_S4096x2x2x1024_S4096x2x1x1024_0_0_0_0) shapeCasts_S4096x2x1x1024_S4096x2x1024

/-- The backward filters. -/
abbrev BWD (h : FVec Ideal S4096x2x2x1024 .f32) : FVec Ideal S4096x2x1024 .f32 :=
  shapeCast S4096x2x1024 (extractStridedSlice S4096x2x1x1024 ![0, 0, 1, 0] h slices_S4096x2x2x1024_S4096x2x1x1024_0_0_1_0) shapeCasts_S4096x2x1x1024_S4096x2x1024

/-- The forward filters, then the backward ones from their last lag to their first. -/
abbrev JOIN (f b : FVec Ideal S4096x2x1024 .f32) : FVec Ideal S8192x2x1024 .f32 :=
  concatenate S8192x2x1024 0 [⟨S4096x2x1024, f⟩, ⟨S1x2x1024, extractStridedSlice S1x2x1024 ![0, 0, 0] b slices_S4096x2x1024_S1x2x1024_0_0_0⟩,
    ⟨S4095x2x1024, Host.reverse [0] (extractStridedSlice S4095x2x1024 ![1, 0, 0] b slices_S4096x2x1024_S4095x2x1024_1_0_0)⟩] concatenates_S4096x2x1024_S1x2x1024_S4095x2x1024_S8192x2x1024_d0

/-- The whole reference. -/
abbrev FILT (z : FVec Ideal S4096x33 .f32) (w1 : FVec Ideal S1x33x64 .f32) (b1 q1 : FVec Ideal S1x64 .f32) (w2 : FVec Ideal S1x64x64 .f32) (b2 q2 : FVec Ideal S1x64 .f32)
    (w3 : FVec Ideal S1x64x4096 .f32) : FVec Ideal S4096x2x2x1024 .f32 :=
  mulf (HEADS (HID2 (HID1 z w1 b1 q1) w2 b2 q2) w3) (DECAY RATES)

theorem res_eq (m : (ℓ : Loc nD τ sig) → Buf (Elt Ideal) ℓ) (c : Dev nD) : Cert.ReferenceFiltersIdeal.Value.res_main_v48 m c
    = shapeCast S8192x2048 (JOIN
      (FWD (FILT (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))))
      (BWD (FILT (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)))))
      shapeCasts_S8192x2x1024_S8192x2048 := rfl

variable (r : Fin 4096) (k : Fin 64) (o h : Fin 2) (e : Fin 1024)

theorem row_at (b : FVec Ideal S1x64 .f32) : ROW b (ix2 r k) = b (ix2 0 k) := by
  pointwise [ROW]

theorem hid1_at (z : FVec Ideal S4096x33 .f32) (w : FVec Ideal S1x33x64 .f32) (b q : FVec Ideal S1x64 .f32) :
    HID1 z w b q (ix2 r k) = Ideal.sin (q (ix2 0 k) * ((∑ x, z (ix2 r x) * w (ix3 0 x k)) + b (ix2 0 k))) := by
  pointwise [HID1]

theorem hid2_at (X : FVec Ideal S4096x64 .f32) (w : FVec Ideal S1x64x64 .f32) (b q : FVec Ideal S1x64 .f32) :
    HID2 X w b q (ix2 r k) = Ideal.sin (q (ix2 0 k) * ((∑ x, X (ix2 r x) * w (ix3 0 x k)) + b (ix2 0 k))) := by
  pointwise [HID2]

theorem heads_at (X : FVec Ideal S4096x64 .f32) (w : FVec Ideal S1x64x4096 .f32) :
    HEADS X w (ix4 r o h e) = ∑ k, X (ix2 r k) * w (ix3 0 k ⟨o.val * 2048 + h.val * 1024 + e.val, by omega⟩) := by
  pointwise [HEADS]

theorem decay_at (d : FVec Ideal S1024 .f32) : DECAY d (ix4 r o h e)
    = Ideal.exp (-(Ideal.div (FloatOps.sitofp (F := Ideal) FTy.f32 (BitVec.ofNat 32 r.val)) (Ideal.ofBits .f32 0x457FF000#32)) * Host.absf d (ix1 e)) := by
  pointwise [DECAY]

theorem fwd_at (H : FVec Ideal S4096x2x2x1024 .f32) : FWD H (ix3 r o e) = H (ix4 r o 0 e) := by
  pointwise [FWD]

theorem bwd_at (H : FVec Ideal S4096x2x2x1024 .f32) : BWD H (ix3 r o e) = H (ix4 r o 1 e) := by
  pointwise [BWD]

/-- Three arrays one below the other. -/
theorem stack_at (f : FVec Ideal S4096x2x1024 .f32) (u : FVec Ideal S1x2x1024 .f32) (v : FVec Ideal S4095x2x1024 .f32) (j : Fin 8192) :
    (concatenate S8192x2x1024 0 [⟨S4096x2x1024, f⟩, ⟨S1x2x1024, u⟩, ⟨S4095x2x1024, v⟩] concatenates_S4096x2x1024_S1x2x1024_S4095x2x1024_S8192x2x1024_d0) (ix3 j o e)
    = if hj : j.val < 4096 then f (ix3 ⟨j.val, hj⟩ o e) else if hk : j.val - 4096 < 1 then u (ix3 ⟨j.val - 4096, hk⟩ o e) else v (ix3 ⟨j.val - 4096 - 1, by omega⟩ o e) := by
  pointwise

theorem first_at (b : FVec Ideal S4096x2x1024 .f32) (i : Fin 1) :
    (extractStridedSlice S1x2x1024 ![0, 0, 0] b slices_S4096x2x1024_S1x2x1024_0_0_0) (ix3 i o e) = b (ix3 0 o e) := by
  pointwise

theorem rest_at (b : FVec Ideal S4096x2x1024 .f32) (i : Fin 4095) :
    (extractStridedSlice S4095x2x1024 ![1, 0, 0] b slices_S4096x2x1024_S4095x2x1024_1_0_0) (ix3 i o e) = b (ix3 ⟨1 + i.val, by omega⟩ o e) := by
  pointwise

theorem turned_at (v : FVec Ideal S4095x2x1024 .f32) (i : Fin 4095) : Host.reverse [0] v (ix3 i o e) = v (ix3 ⟨4094 - i.val, by omega⟩ o e) := by
  pointwise
  exact congrArg (fun x => v (ix3 x o e)) (Fin.ext (by show 4095 - (i.val + 1) = 4094 - i.val; omega))

/-- A row of the joined filters: a forward lag, or a backward lag counted down. -/
theorem join_at (f b : FVec Ideal S4096x2x1024 .f32) (j : Fin 8192) : JOIN f b (ix3 j o e)
    = if hj : j.val < 4096 then f (ix3 ⟨j.val, hj⟩ o e) else b (ix3 ⟨(8192 - j.val) % 4096, by omega⟩ o e) := by
  refine (stack_at o e f _ _ j).trans ?_
  split_ifs with h1 h2
  · rfl
  · rw [first_at]
    exact congrArg (fun x => b (ix3 x o e)) (Fin.ext (by show 0 = (8192 - j.val) % 4096; omega))
  · rw [turned_at, rest_at]
    exact congrArg (fun x => b (ix3 x o e)) (Fin.ext (by show 1 + (4094 - (j.val - 4096 - 1)) = (8192 - j.val) % 4096; omega))

/-- The reshape of orders and channels into one axis. -/
theorem flat_at (X : FVec Ideal S8192x2x1024 .f32) (i : S8192x2048.Idx) (j : S8192x2x1024.Idx) (h0 : (j 0).val = (i 0).val) (h1 : (j 1).val = (i 1).val / 1024)
    (h2 : (j 2).val = (i 1).val % 1024) : shapeCast S8192x2048 X shapeCasts_S8192x2x1024_S8192x2048 i = X j := by
  pointwise
  blk_ext

end Cert.ReferenceFiltersIdeal.Filters

end
-- ==== Proof.FilEq.lean ====
/-
  One entry of the filters: what the kernel computes at a row and column is what the reference computes at that row's lag. The kernel's
  first product runs over 64 position features, of which the last 31 are nought on both sides.
-/
module

public import proofs.«01_k».proof.Proof.FilKer
public import proofs.«01_k».proof.Proof.FilRef

@[expose] public section

set_option maxRecDepth 16384

noncomputable section

open Idealize.ShloMosaic Idealize.ShloMosaic.TcCoe Idealize.SL.Sem

namespace Cert.KernelFiltersIdeal.Filters

open Cert.KernelFiltersIdeal Cert.KernelFiltersIdeal.Gen
open Cert.ReferenceFiltersIdeal.Filters (HID1 HID2 HEADS DECAY hid1_at hid2_at heads_at decay_at)

/-- A sum over 64 terms whose last 31 are products of noughts. -/
theorem sum_padded (f g : Fin 64 → EReal) (u v : Fin 33 → EReal) (hf : ∀ k, f k = if h : k.val < 33 then u ⟨k.val, h⟩ else 0)
    (hg : ∀ k, g k = if h : k.val < 33 then v ⟨k.val, h⟩ else 0) : ∑ k, f k * g k = ∑ x, u x * v x := by
  refine (Fin.sum_univ_add (a := 33) (b := 31) fun k => f k * g k).trans ?_
  have h1 : ∀ x : Fin 33, f (Fin.castAdd 31 x) * g (Fin.castAdd 31 x) = u x * v x := fun x => by
    rw [hf, hg, dif_pos (show (Fin.castAdd 31 x).val < 33 from x.isLt), dif_pos (show (Fin.castAdd 31 x).val < 33 from x.isLt)]
    rfl
  have h2 : ∀ x : Fin 31, f (Fin.natAdd 33 x) * g (Fin.natAdd 33 x) = 0 := fun x => by
    rw [hf, dif_neg (show ¬ (Fin.natAdd 33 x).val < 33 by show ¬ 33 + x.val < 33; omega), zero_mul]
  rw [Finset.sum_congr rfl fun x _ => h1 x, Finset.sum_congr rfl fun x _ => h2 x, Finset.sum_const_zero, add_zero]

/-- Rows of a hidden layer with the same inputs, weights, shifts and frequencies. -/
theorem entry_eq (Z : FVec Ideal S512x64 .f32) (W1 W2 : Vec Ideal S64x64 .f32) (B1 Q1 B2 Q2 : Vec Ideal S1x64 .f32) (W3 : Vec Ideal S1x64x2048 .bf16) (D : Vec Ideal S1x2048 .f32)
    (z : FVec Ideal Cert.ReferenceFiltersIdeal.S4096x33 .f32) (w1 : FVec Ideal Cert.ReferenceFiltersIdeal.S1x33x64 .f32) (b1 q1 b2 q2 : FVec Ideal Cert.ReferenceFiltersIdeal.S1x64 .f32)
    (w2 : FVec Ideal Cert.ReferenceFiltersIdeal.S1x64x64 .f32) (w3 : FVec Ideal Cert.ReferenceFiltersIdeal.S1x64x4096 .f32) (d : FVec Ideal Cert.ReferenceFiltersIdeal.S1024 .f32)
    (i : grid0.Coords) (r : Fin 512) (y : Fin 2048) (s : Fin 4096) (o h : Fin 2) (e : Fin 1024)
    (hz : ∀ k : Fin 64, Z (ix2 r k) = if hk : k.val < 33 then z (ix2 s ⟨k.val, hk⟩) else 0)
    (hw1 : ∀ x k : Fin 64, W1 (ix2 x k) = if hx : x.val < 33 then w1 (ix3 0 ⟨x.val, hx⟩ k) else 0)
    (hb1 : ∀ k, B1 (ix2 0 k) = b1 (ix2 0 k)) (hq1 : ∀ k, Q1 (ix2 0 k) = q1 (ix2 0 k)) (hw2 : ∀ x k, W2 (ix2 x k) = w2 (ix3 0 x k))
    (hb2 : ∀ k, B2 (ix2 0 k) = b2 (ix2 0 k)) (hq2 : ∀ k, Q2 (ix2 0 k) = q2 (ix2 0 k))
    (hw3 : ∀ k, W3 (ix3 0 k y) = w3 (ix3 0 k ⟨o.val * 2048 + h.val * 1024 + e.val, by omega⟩)) (hd : D (ix2 0 y) = Host.absf d (ix1 e))
    (hl : LAG (BitVec.ofNat 32 r.val + BitVec.ofNat 32 (i 0).val * 512#32) = BitVec.ofNat 32 s.val) :
    k0_pay1 (OUTS (LAYER (LAYER Z W1 B1 Q1) W2 B2 Q2) W3) (k0_pay3 i) (k0_pay4 i) 8192#32 D (ix2 r y)
    = mulf (HEADS (HID2 (HID1 z w1 b1 q1) w2 b2 q2) w3) (DECAY d) (ix4 s o h e) := by
  have e1 : ∀ k, LAYER Z W1 B1 Q1 (ix2 r k) = HID1 z w1 b1 q1 (ix2 s k) := fun k => by
    refine (layer_at _ _ _ _ _ _).trans (Eq.trans ?_ (hid1_at _ _ _ _ _ _).symm)
    rw [sum_padded (fun x => Z (ix2 r x)) (fun x => W1 (ix2 x k)) (fun x => z (ix2 s x)) (fun x => w1 (ix3 0 x k)) hz fun x => hw1 x k, hb1, hq1]
  have e2 : ∀ k, LAYER (LAYER Z W1 B1 Q1) W2 B2 Q2 (ix2 r k) = HID2 (HID1 z w1 b1 q1) w2 b2 q2 (ix2 s k) := fun k => by
    refine (layer_at _ _ _ _ _ _).trans (Eq.trans ?_ (hid2_at _ _ _ _ _ _).symm)
    rw [hb2, hq2, Finset.sum_congr rfl fun x _ => congrArg₂ (· * ·) (e1 x) (hw2 x k)]
  refine (pay1_at _ _ _ _ _).trans ?_
  refine congrArg₂ (· * ·) ?_ ?_
  · refine (outs_at _ _ _ _).trans (Eq.trans ?_ (heads_at _ _ _ _ _ _).symm)
    exact Finset.sum_congr rfl fun k _ => congrArg₂ (· * ·) (e2 k) (hw3 k)
  · refine Eq.trans ?_ (decay_at _ _ _ _ _).symm
    rw [hl, hd]

end Cert.KernelFiltersIdeal.Filters

end
-- ==== Proof.FilBlocks.lean ====
/-
  The arrays the filters' kernel is called with, in terms of the arguments.
-/
module

public import proofs.«01_k».proof.Proof.FilKer
public import proofs.«01_k».proof.Proof.FilRef
public import Idealize.ShloMosaic.Lib.Quiescent
public import proofs.«01_k».proof.Defs
public import proofs.«01_k».proof.Proof.Gen.KernelFilters.Frame

@[expose] public section

set_option maxRecDepth 16384

noncomputable section

open Idealize.ShloMosaic Idealize.ShloMosaic.TcCoe Idealize.SL.Sem
open Idealize.ShloMosaic.Pipeline (Dat)

namespace Cert.KernelFiltersIdeal.Filters

open Cert.KernelFiltersIdeal Cert.KernelFiltersIdeal.Gen
open Cert.ReferenceFiltersIdeal.Filters (RATES)

variable (m : (ℓ : Loc nD τ sig) → Buf (Elt Ideal) ℓ)

/-- The number nought, as the padding has it. -/
abbrev NIL : FVec Ideal S_ .f32 := sitofp .f32 (constantI S_ 32 0#32)

/-- The position features, widened from 33 to 64 by noughts. -/
abbrev WIDE (z : FVec Ideal S4096x33 .f32) : FVec Ideal S4096x64 .f32 := pad S4096x64 ![0, 0] ![0, 31] ![0, 0] z NIL pads_S4096x33_S4096x64_000_0310 h_S_

/-- The positions of the 8192 rows. -/
abbrev TURN (X : FVec Ideal S4096x64 .f32) : FVec Ideal S8192x64 .f32 :=
  concatenate S8192x64 0 [⟨S4096x64, X⟩, ⟨S1x64, extractStridedSlice S1x64 ![0, 0] X slices_S4096x64_S1x64_0_0⟩,
    ⟨S4095x64, Host.reverse [0] (extractStridedSlice S4095x64 ![1, 0] X slices_S4096x64_S4095x64_1_0)⟩] concatenates_S4096x64_S1x64_S4095x64_S8192x64_d0

/-- The first layer's weights, lengthened from 33 rows to 64 by noughts. -/
abbrev LONG (w : FVec Ideal S1x33x64 .f32) : FVec Ideal S64x64 .f32 :=
  pad S64x64 ![0, 0] ![31, 0] ![0, 0] (shapeCast S33x64 w shapeCasts_S1x33x64_S33x64) NIL pads_S33x64_S64x64_0310_000 h_S_

/-- The last layer's weights, direction first. -/
abbrev SORT (w : FVec Ideal S1x64x4096 .f32) : FVec Ideal S2x64x2048 .bf16 :=
  truncf .bf16 (shapeCast S2x64x2048 (transpose S2x64x2x1024 [2, 0, 1, 3] (shapeCast S64x2x2x1024 (shapeCast S64x4096 w shapeCasts_S1x64x4096_S64x4096) shapeCasts_S64x4096_S64x2x2x1024)
    transposes_S64x2x2x1024_S2x64x2x1024_2_0_1_3) shapeCasts_S2x64x2x1024_S2x64x2048) bitsLt_bf16_f32

/-- The decay rates of the 2048 columns. -/
abbrev TWICE (d : FVec Ideal S1024 .f32) : FVec Ideal S1x2048 .f32 :=
  shapeCast S1x2048 (shapeCast S2048 (broadcastInDim S2x1024 ![0, 1] bcast_S1x1024_S2x1024_0_1 (shapeCast S1x1024 (Host.absf d) shapeCasts_S1024_S1x1024)) shapeCasts_S2x1024_S2048) shapeCasts_S2048_S1x2048

theorem V_b1 (c : Dev nD) : V m c main_v23 = shapeCast S1x64 (shapeCast S64 (m ((c.tc : Thread nD τ).loc main_arg2) : FVec Ideal S1x64 .f32) shapeCasts_S1x64_S64) shapeCasts_S64_S1x64 := by
  entry_read; rfl
theorem V_q1 (c : Dev nD) : V m c main_v24 = shapeCast S1x64 (shapeCast S64 (m ((c.tc : Thread nD τ).loc main_arg3) : FVec Ideal S1x64 .f32) shapeCasts_S1x64_S64) shapeCasts_S64_S1x64 := by
  entry_read; rfl
theorem V_w2 (c : Dev nD) : V m c main_v3 = shapeCast S64x64 (m ((c.tc : Thread nD τ).loc main_arg4) : FVec Ideal S1x64x64 .f32) shapeCasts_S1x64x64_S64x64 := by
  entry_read; rfl
theorem V_b2 (c : Dev nD) : V m c main_v25 = shapeCast S1x64 (shapeCast S64 (m ((c.tc : Thread nD τ).loc main_arg5) : FVec Ideal S1x64 .f32) shapeCasts_S1x64_S64) shapeCasts_S64_S1x64 := by
  entry_read; rfl
theorem V_q2 (c : Dev nD) : V m c main_v26 = shapeCast S1x64 (shapeCast S64 (m ((c.tc : Thread nD τ).loc main_arg6) : FVec Ideal S1x64 .f32) shapeCasts_S1x64_S64) shapeCasts_S64_S1x64 := by
  entry_read; rfl
theorem V_w3 (c : Dev nD) : V m c main_v22 = SORT (m ((c.tc : Thread nD τ).loc main_arg7)) := by
  entry_read; rfl
theorem V_w1 (c : Dev nD) : V m c main_v12 = LONG (m ((c.tc : Thread nD τ).loc main_arg1)) := by
  entry_read; rfl
theorem V_z (c : Dev nD) : V m c main_v11 = TURN (WIDE (m ((c.tc : Thread nD τ).loc main_arg0))) := by
  entry_read; rfl
theorem V_d (c : Dev nD) : V m c main_v18 = TWICE RATES := by
  entry_read; rfl

/-- Where the windows' blocks lie at a point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val / 8, 0, 0] ∧ win0_8.index t = ![0, 0] ∧ win0_9.index t = ![t.val, 0] :=
  (by decide +kernel : ∀ t : Fin grid0.N, _)

/-- The grid's only coordinate. -/
theorem coord : ∀ t : Fin cfg0.N, (grid0.coords t 0).val = t.val :=
  (by decide +kernel : ∀ t : Fin grid0.N, _)

variable (X : FVec Ideal S4096x64 .f32) (k : Fin 64)

/-- The integer nought as a number. -/
theorem nought : (FloatOps.sitofp FTy.f32 (0#32 : BitVec 32) : Ideal .f32) = (0 : EReal) := by
  show (((0#32 : BitVec 32).toInt : ℝ) : EReal) = 0
  simp

theorem wide_at (z : FVec Ideal S4096x33 .f32) (s : Fin 4096) : WIDE z (ix2 s k) = if hk : k.val < 33 then z (ix2 s ⟨k.val, hk⟩) else 0 := by
  pointwise [WIDE]
  rw [nought]

theorem long_at (w : FVec Ideal S1x33x64 .f32) (x : Fin 64) : LONG w (ix2 x k) = if hx : x.val < 33 then w (ix3 0 ⟨x.val, hx⟩ k) else 0 := by
  pointwise [LONG]
  rw [nought]

theorem stack_at (u : FVec Ideal S1x64 .f32) (v : FVec Ideal S4095x64 .f32) (j : Fin 8192) :
    (concatenate S8192x64 0 [⟨S4096x64, X⟩, ⟨S1x64, u⟩, ⟨S4095x64, v⟩] concatenates_S4096x64_S1x64_S4095x64_S8192x64_d0) (ix2 j k)
    = if hj : j.val < 4096 then X (ix2 ⟨j.val, hj⟩ k) else if hk : j.val - 4096 < 1 then u (ix2 ⟨j.val - 4096, hk⟩ k) else v (ix2 ⟨j.val - 4096 - 1, by omega⟩ k) := by
  pointwise

theorem first_at (i : Fin 1) : (extractStridedSlice S1x64 ![0, 0] X slices_S4096x64_S1x64_0_0) (ix2 i k) = X (ix2 0 k) := by
  pointwise

theorem rest_at (i : Fin 4095) : (extractStridedSlice S4095x64 ![1, 0] X slices_S4096x64_S4095x64_1_0) (ix2 i k) = X (ix2 ⟨1 + i.val, by omega⟩ k) := by
  pointwise

theorem turned_at (v : FVec Ideal S4095x64 .f32) (i : Fin 4095) : Host.reverse [0] v (ix2 i k) = v (ix2 ⟨4094 - i.val, by omega⟩ k) := by
  pointwise
  exact congrArg (fun x => v (ix2 x k)) (Fin.ext (by show 4095 - (i.val + 1) = 4094 - i.val; omega))

/-- The position a row of the filters is computed from. -/
theorem turn_at (j : Fin 8192) (s : Fin 4096) (hs : s.val = if j.val < 4096 then j.val else (8192 - j.val) % 4096) : TURN X (ix2 j k) = X (ix2 s k) := by
  refine (stack_at X k _ _ j).trans ?_
  split_ifs at hs ⊢ with h1 h2
  · exact congrArg (fun x => X (ix2 x k)) (Fin.ext hs.symm)
  · rw [first_at]
    exact congrArg (fun x => X (ix2 x k)) (Fin.ext (by show 0 = s.val; omega))
  · rw [turned_at, rest_at]
    exact congrArg (fun x => X (ix2 x k)) (Fin.ext (by show 1 + (4094 - (j.val - 4096 - 1)) = s.val; omega))

theorem sort_at (w : FVec Ideal S1x64x4096 .f32) (h o : Fin 2) (e : Fin 1024) :
    SORT w (ix3 h k ⟨o.val * 1024 + e.val, by omega⟩) = w (ix3 0 k ⟨o.val * 2048 + h.val * 1024 + e.val, by omega⟩) := by
  pointwise [SORT]

theorem twice_at (d : FVec Ideal S1024 .f32) (o : Fin 2) (e : Fin 1024) : TWICE d (ix2 0 ⟨o.val * 1024 + e.val, by omega⟩) = Host.absf d (ix1 e) := by
  pointwise [TWICE]

/-- A row of values, taken out of its array of one row and put back. -/
theorem again (Y : FVec Ideal S1x64 .f32) (i j : S1x64.Idx) (h : (j 1).val = (i 1).val) :
    shapeCast S1x64 (shapeCast S64 Y shapeCasts_S1x64_S64) shapeCasts_S64_S1x64 i = Y j := by
  pointwise
  blk_ext

/-- The second layer's weights. -/
theorem layer (Y : FVec Ideal S1x64x64 .f32) (i : S64x64.Idx) (j : S1x64x64.Idx) (h1 : (j 1).val = (i 0).val) (h2 : (j 2).val = (i 1).val) :
    shapeCast S64x64 Y shapeCasts_S1x64x64_S64x64 i = Y j := by
  pointwise
  blk_ext

theorem z_at (c : Dev nD) (t : Fin cfg0.N) (i : S512x64.Idx) (j : Fin 8192) (h0 : j.val = t.val * 512 + (i 0).val) (h1 : k.val = (i 1).val) :
    iblk m c 0 t i = TURN (WIDE (m ((c.tc : Thread nD τ).loc main_arg0))) (ix2 j k) := by
  show V m c main_v11 (((cfg0.win 0).blk t).view.emb i) = _
  rw [V_z]
  refine congrArg (TURN _) ?_
  blk_ext [idx t]

theorem w1_at (c : Dev nD) (t : Fin cfg0.N) (i : S64x64.Idx) (x : Fin 64) (h0 : x.val = (i 0).val) (h1 : k.val = (i 1).val) :
    iblk m c 1 t i = LONG (m ((c.tc : Thread nD τ).loc main_arg1)) (ix2 x k) := by
  show V m c main_v12 (((cfg0.win 1).blk t).view.emb i) = _
  rw [V_w1]
  refine congrArg (LONG _) ?_
  blk_ext [idx t]

theorem b1_at (c : Dev nD) (t : Fin cfg0.N) (i j : S1x64.Idx) (h : (j 1).val = (i 1).val) : iblk m c 2 t i = m ((c.tc : Thread nD τ).loc main_arg2) j := by
  show V m c main_v23 (((cfg0.win 2).blk t).view.emb i) = _
  rw [V_b1]
  refine again _ _ _ ?_
  rw [h]; blk_simp [idx t]

theorem q1_at (c : Dev nD) (t : Fin cfg0.N) (i j : S1x64.Idx) (h : (j 1).val = (i 1).val) : iblk m c 3 t i = m ((c.tc : Thread nD τ).loc main_arg3) j := by
  show V m c main_v24 (((cfg0.win 3).blk t).view.emb i) = _
  rw [V_q1]
  refine again _ _ _ ?_
  rw [h]; blk_simp [idx t]

theorem w2_at (c : Dev nD) (t : Fin cfg0.N) (i : S64x64.Idx) (j : S1x64x64.Idx) (h1 : (j 1).val = (i 0).val) (h2 : (j 2).val = (i 1).val) :
    iblk m c 4 t i = m ((c.tc : Thread nD τ).loc main_arg4) j := by
  show V m c main_v3 (((cfg0.win 4).blk t).view.emb i) = _
  rw [V_w2]
  refine layer _ _ _ ?_ ?_
  · rw [h1]; blk_simp [idx t]
  · rw [h2]; blk_simp [idx t]

theorem b2_at (c : Dev nD) (t : Fin cfg0.N) (i j : S1x64.Idx) (h : (j 1).val = (i 1).val) : iblk m c 5 t i = m ((c.tc : Thread nD τ).loc main_arg5) j := by
  show V m c main_v25 (((cfg0.win 5).blk t).view.emb i) = _
  rw [V_b2]
  refine again _ _ _ ?_
  rw [h]; blk_simp [idx t]

theorem q2_at (c : Dev nD) (t : Fin cfg0.N) (i j : S1x64.Idx) (h : (j 1).val = (i 1).val) : iblk m c 6 t i = m ((c.tc : Thread nD τ).loc main_arg6) j := by
  show V m c main_v26 (((cfg0.win 6).blk t).view.emb i) = _
  rw [V_q2]
  refine again _ _ _ ?_
  rw [h]; blk_simp [idx t]

theorem w3_at (c : Dev nD) (t : Fin cfg0.N) (i : S1x64x2048.Idx) (j : S2x64x2048.Idx) (h0 : (j 0).val = t.val / 8) (h1 : (j 1).val = (i 1).val) (h2 : (j 2).val = (i 2).val) :
    iblk m c 7 t i = SORT (m ((c.tc : Thread nD τ).loc main_arg7)) j := by
  show V m c main_v22 (((cfg0.win 7).blk t).view.emb i) = _
  rw [V_w3]
  refine congrArg (SORT _) ?_
  blk_ext [idx t]

theorem d_at (c : Dev nD) (t : Fin cfg0.N) (i j : S1x2048.Idx) (h : (j 1).val = (i 1).val) : iblk m c 8 t i = TWICE RATES j := by
  show V m c main_v18 (((cfg0.win 8).blk t).view.emb i) = _
  rw [V_d]
  refine congrArg (TWICE _) ?_
  blk_ext [idx t]

end Cert.KernelFiltersIdeal.Filters

end
-- ==== Proof.Filters.lean ====
/-
  The long-convolution filters: a multilayer perceptron with sine activations of the position features, times a decay of position and
  channel, laid out over 8192 rows, forward lags first and backward lags after them from last to first. The kernel turns the position
  features over before the perceptron and finds each row's lag from its number; the reference computes both directions for 4096 positions and
  turns the backward filters over afterwards.
-/
module

public import proofs.«01_k».proof.Proof.FilEq
public import proofs.«01_k».proof.Proof.FilBlocks
public import proofs.«01_k».proof.Proof.Gen.ReferenceFiltersIdeal.Run
public import Idealize.ShloMosaic.Lib.Quiescent
public import proofs.«01_k».proof.Defs
public import proofs.«01_k».proof.Proof.Gen.KernelFilters.Frame

@[expose] public section

set_option maxRecDepth 16384

noncomputable section

open Idealize.ShloMosaic Idealize.ShloMosaic.TcCoe Idealize.SL.Sem
open Idealize.ShloMosaic.Pipeline (Dat)

namespace Cert.KernelFiltersIdeal.Filters

open Cert.KernelFiltersIdeal Cert.KernelFiltersIdeal.Gen
open Cert.ReferenceFiltersIdeal.Filters (RATES FILT FWD BWD JOIN fwd_at bwd_at join_at flat_at)

variable (m : (ℓ : Loc nD τ sig) → Buf (Elt Ideal) ℓ)

/-- The reference's filters of the arguments, by position, order, direction and channel. -/
abbrev HH (c : Dev nD) : FVec Ideal Cert.ReferenceFiltersIdeal.S4096x2x2x1024 .f32 :=
  FILT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The reference's term of the arguments. -/
abbrev OUT (c : Dev nD) : FVec Ideal S8192x2048 .f32 :=
  shapeCast S8192x2048 (JOIN (FWD (HH m c)) (BWD (HH m c))) Cert.ReferenceFiltersIdeal.Gen.shapeCasts_S8192x2x1024_S8192x2048

/-- What a row and column of the reference is, by lag, order, direction and channel. -/
theorem out_at (c : Dev nD) (z : S8192x2048.Idx) (j : Fin 8192) (s : Fin 4096) (o h : Fin 2) (e : Fin 1024) (hj : j.val = (z 0).val) (ho : o.val = (z 1).val / 1024)
    (he : e.val = (z 1).val % 1024) (hh : h.val = j.val / 4096) (hs : s.val = if j.val < 4096 then j.val else (8192 - j.val) % 4096) :
    OUT m c z = HH m c (ix4 s o h e) := by
  refine (flat_at _ z (ix3 j o e) hj ho he).trans ((join_at o e _ _ j).trans ?_)
  have hj' : j.val < 8192 := j.isLt
  split_ifs at hs ⊢ with h1
  · obtain rfl : h = 0 := Fin.ext (by show h.val = 0; omega)
    exact (fwd_at _ _ _ _).trans (congrArg (fun x => HH m c (ix4 x o 0 e)) (Fin.ext hs.symm))
  · obtain rfl : h = 1 := Fin.ext (by show h.val = 1; omega)
    exact (bwd_at _ _ _ _).trans (congrArg (fun x => HH m c (ix4 x o 1 e)) (Fin.ext hs.symm))

/-- A cast to the shape it has changes nothing. -/
theorem whole (X : Vec Ideal S512x64 .f32) (i : S512x64.Idx) : shapeCast S512x64 X shapeCasts_S512x64_S512x64 i = X i := by
  pointwise

/-- What a point stores at an entry of its block is the reference's value at that row and column. -/
theorem point (c : Dev nD) (t : Fin cfg0.N) (y : S512x2048.Idx) (z : S8192x2048.Idx) (h0 : (z 0).val = t.val * 512 + (y 0).val) (h1 : (z 1).val = (y 1).val) :
    k0_pay1 (k0_pay2 (iblk m c 0 t) (iblk m c 1 t) (iblk m c 2 t) (iblk m c 3 t) (iblk m c 4 t) (iblk m c 5 t) (iblk m c 6 t) (iblk m c 7 t)) (k0_pay3 (grid0.coords t)) (k0_pay4 (grid0.coords t)) 8192#32
      (iblk m c 8 t) y = OUT m c z := by
  have ht : t.val < 16 := t.isLt
  have hy0 : (y 0).val < 512 := (y 0).isLt
  have hy1 : (y 1).val < 2048 := (y 1).isLt
  have ey : y = ix2 (y 0) (y 1) := funext fun a => match a with | 0 => rfl | 1 => rfl
  have hlt : (if t.val * 512 + (y 0).val < 4096 then t.val * 512 + (y 0).val else (8192 - (t.val * 512 + (y 0).val)) % 4096) < 4096 := by split_ifs <;> omega
  rw [ey, pay2_eq]
  refine (entry_eq _ _ _ _ _ _ _ _ _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg4)) (m ((c.tc : Thread nD τ).loc main_arg7)) RATES (grid0.coords t)
    (y 0) (y 1) ⟨_, hlt⟩ ⟨(y 1).val / 1024, by omega⟩ ⟨t.val / 8, by omega⟩ ⟨(y 1).val % 1024, by omega⟩ ?_ ?_ ?_ ?_ ?_ ?_ ?_ ?_ ?_ ?_).trans
    (out_at m c z ⟨t.val * 512 + (y 0).val, by omega⟩ ⟨_, hlt⟩ ⟨(y 1).val / 1024, by omega⟩ ⟨t.val / 8, by omega⟩ ⟨(y 1).val % 1024, by omega⟩ ?_ ?_ ?_ ?_ ?_).symm
  · exact fun k => (whole _ _).trans ((z_at m k c t _ ⟨t.val * 512 + (y 0).val, by omega⟩ rfl rfl).trans ((turn_at _ k _ _ rfl).trans (wide_at k _ _)))
  · exact fun x k => (w1_at m k c t _ x rfl rfl).trans (long_at k _ x)
  · exact fun k => b1_at m c t _ _ rfl
  · exact fun k => q1_at m c t _ _ rfl
  · exact fun x k => w2_at m c t _ _ rfl rfl
  · exact fun k => b2_at m c t _ _ rfl
  · exact fun k => q2_at m c t _ _ rfl
  · exact fun k => (w3_at m c t _ (ix3 ⟨t.val / 8, by omega⟩ k ⟨(y 1).val / 1024 * 1024 + (y 1).val % 1024, by omega⟩) rfl rfl (by show (y 1).val / 1024 * 1024 + (y 1).val % 1024 = (y 1).val; omega)).trans
      (sort_at k _ ⟨t.val / 8, by omega⟩ ⟨(y 1).val / 1024, by omega⟩ ⟨(y 1).val % 1024, by omega⟩)
  · exact (d_at m c t _ (ix2 0 ⟨(y 1).val / 1024 * 1024 + (y 1).val % 1024, by omega⟩) (by show (y 1).val / 1024 * 1024 + (y 1).val % 1024 = (y 1).val; omega)).trans
      (twice_at _ ⟨(y 1).val / 1024, by omega⟩ ⟨(y 1).val % 1024, by omega⟩)
  · rw [coord]
    exact (congrArg LAG (word (y 0) t.val ht)).trans (lag ⟨t.val * 512 + (y 0).val, by omega⟩)
  · exact h0.symm
  · show (y 1).val / 1024 = (z 1).val / 1024
    rw [h1]
  · show (y 1).val % 1024 = (z 1).val % 1024
    rw [h1]
  · show t.val / 8 = (t.val * 512 + (y 0).val) / 4096
    omega
  · rfl

/-- The result array after the run. -/
theorem final (c : Dev nD) : (dats m 0 c).arrAt 9 (cfgs 0).N = OUT m c := by
  refine (dats m 0 c).arrAt_eq_of_covers 9 _ (by decide +kernel) fun t _ y => ?_
  blk_simp
  rw [after0_9]; frame_out
  exact point m c t _ _ (by blk_simp [idx t]) (by blk_simp [idx t])

end Cert.KernelFiltersIdeal.Filters

namespace Cert.Proof.Filters

theorem frame_kernel : Cert.quiescent_KernelFilters := fun m ρ _ => Cert.KernelFilters.Gen.frame m ρ
theorem frame_ideal : Cert.quiescent_KernelFiltersIdeal := fun m ρ _ => Cert.KernelFiltersIdeal.Gen.frame m ρ
theorem frame_reference : Cert.quiescent_ReferenceFiltersIdeal := fun m ρ _ =>
  (θ_run Cert.ReferenceFiltersIdeal.defs _ _).mono (fun r h => ⟨fun c => (h c).2, sem_eq_zero_of_no_sems (by decide) r.2⟩)
    (Cert.ReferenceFiltersIdeal.Value.run (F := Ideal) m ρ)

/-- Kernel and reference leave the same array over the extended reals. -/
theorem algebraic : Cert.algebraic_KernelFiltersIdeal_ReferenceFiltersIdeal := by
  pair_intro
  · run_from Cert.KernelFiltersIdeal.Gen.run_main m g
    · exact Cert.KernelFiltersIdeal.Gen.V_main_arg0 m c
    · exact Cert.KernelFiltersIdeal.Gen.V_main_arg1 m c
    · exact Cert.KernelFiltersIdeal.Gen.V_main_arg2 m c
    · exact Cert.KernelFiltersIdeal.Gen.V_main_arg3 m c
    · exact Cert.KernelFiltersIdeal.Gen.V_main_arg4 m c
    · exact Cert.KernelFiltersIdeal.Gen.V_main_arg5 m c
    · exact Cert.KernelFiltersIdeal.Gen.V_main_arg6 m c
    · exact Cert.KernelFiltersIdeal.Gen.V_main_arg7 m c
  · refine (θ_run Cert.ReferenceFiltersIdeal.defs _ _).mono (fun r h c => ⟨(h c).1.trans ?_, (h c).2⟩) (Cert.ReferenceFiltersIdeal.Value.run (F := Ideal) m' g')
    refine (Cert.ReferenceFiltersIdeal.Filters.res_eq m' c).trans (Eq.trans ?_ (Cert.KernelFiltersIdeal.Filters.final m c).symm)
    rw [(hagree c).1, (hagree c).2.1, (hagree c).2.2.1, (hagree c).2.2.2.1, (hagree c).2.2.2.2.1, (hagree c).2.2.2.2.2.1, (hagree c).2.2.2.2.2.2.1, (hagree c).2.2.2.2.2.2.2]

end Cert.Proof.Filters

end
-- ==== Proof.lean ====
/-
  The claims about the layer's calls, put together: the attention, the embedding's norm, the input projection, the mixers' output
  projection, the last residual and norm, and the long-convolution filters.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelLn0
public import proofs.«01_k».proof.Proof.Gen.KernelLn0.Skeleton
public import proofs.«01_k».proof.Proof.Gen.KernelLn0.Launch
public import proofs.«01_k».proof.Proof.Gen.KernelLn0.Points
public import proofs.«01_k».proof.Proof.Gen.KernelLn0.Frame
public import proofs.«01_k».proof.Proof.Gen.KernelLn0Ideal
public import proofs.«01_k».proof.Proof.Gen.KernelLn0Ideal.Skeleton
public import proofs.«01_k».proof.Proof.Gen.KernelLn0Ideal.Launch
public import proofs.«01_k».proof.Proof.Gen.KernelLn0Ideal.Points
public import proofs.«01_k».proof.Proof.Gen.KernelLn0Ideal.Frame
public import proofs.«01_k».proof.Proof.Gen.ReferenceLn0Ideal
public import proofs.«01_k».proof.Proof.Gen.KernelInProj
public import proofs.«01_k».proof.Proof.Gen.KernelInProj.Skeleton
public import proofs.«01_k».proof.Proof.Gen.KernelInProj.Launch
public import proofs.«01_k».proof.Proof.Gen.KernelInProj.Points
public import proofs.«01_k».proof.Proof.Gen.KernelInProj.Frame
public import proofs.«01_k».proof.Proof.Gen.KernelInProjIdeal
public import proofs.«01_k».proof.Proof.Gen.KernelInProjIdeal.Skeleton
public import proofs.«01_k».proof.Proof.Gen.KernelInProjIdeal.Launch
public import proofs.«01_k».proof.Proof.Gen.KernelInProjIdeal.Points
public import proofs.«01_k».proof.Proof.Gen.KernelInProjIdeal.Frame
public import proofs.«01_k».proof.Proof.Gen.ReferenceInProjIdeal
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.ReferenceMixIdeal
public import proofs.«01_k».proof.Proof.Gen.KernelResLn
public import proofs.«01_k».proof.Proof.Gen.KernelResLn.Skeleton
public import proofs.«01_k».proof.Proof.Gen.KernelResLn.Launch
public import proofs.«01_k».proof.Proof.Gen.KernelResLn.Points
public import proofs.«01_k».proof.Proof.Gen.KernelResLn.Frame
public import proofs.«01_k».proof.Proof.Gen.KernelResLnIdeal
public import proofs.«01_k».proof.Proof.Gen.KernelResLnIdeal.Skeleton
public import proofs.«01_k».proof.Proof.Gen.KernelResLnIdeal.Launch
public import proofs.«01_k».proof.Proof.Gen.KernelResLnIdeal.Points
public import proofs.«01_k».proof.Proof.Gen.KernelResLnIdeal.Frame
public import proofs.«01_k».proof.Proof.Gen.ReferenceResLnIdeal
public import proofs.«01_k».proof.Proof.Gen.ReferenceIdeal.Run
public import proofs.«01_k».proof.Proof.Gen.ReferenceLn0Ideal.Run
public import proofs.«01_k».proof.Proof.Gen.ReferenceInProjIdeal.Run
public import proofs.«01_k».proof.Proof.Gen.ReferenceResLnIdeal.Run
public import proofs.«01_k».proof.Proof.Attn
public import proofs.«01_k».proof.Proof.InProj
public import proofs.«01_k».proof.Proof.Ln0
public import proofs.«01_k».proof.Proof.Mix
public import proofs.«01_k».proof.Proof.ResLn
public import proofs.«01_k».proof.Proof.Gen.KernelIdeal.Value
public import Idealize.ShloMosaic.Adequacy
public import Idealize.ShloMosaic.Init
public import proofs.«01_k».proof.Proof.Gen.KernelFilters
public import proofs.«01_k».proof.Proof.Gen.KernelFilters.Skeleton
public import proofs.«01_k».proof.Proof.Gen.KernelFilters.Launch
public import proofs.«01_k».proof.Proof.Gen.KernelFilters.Points
public import proofs.«01_k».proof.Proof.Gen.KernelFilters.Frame
public import proofs.«01_k».proof.Proof.Gen.KernelFiltersIdeal
public import proofs.«01_k».proof.Proof.Gen.KernelFiltersIdeal.Skeleton
public import proofs.«01_k».proof.Proof.Gen.KernelFiltersIdeal.Launch
public import proofs.«01_k».proof.Proof.Gen.KernelFiltersIdeal.Points
public import proofs.«01_k».proof.Proof.Gen.KernelFiltersIdeal.Frame
public import proofs.«01_k».proof.Proof.Gen.ReferenceFiltersIdeal
public import proofs.«01_k».proof.Proof.Filters

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.KernelLn0.Gen.facts, Cert.KernelLn0Ideal.Gen.facts, Cert.ReferenceLn0Ideal.Gen.facts,
    Cert.KernelInProj.Gen.facts, Cert.KernelInProjIdeal.Gen.facts, Cert.ReferenceInProjIdeal.Gen.facts,
    Cert.KernelMix.Gen.facts, Cert.KernelMixIdeal.Gen.facts, Cert.ReferenceMixIdeal.Gen.facts,
    Cert.KernelResLn.Gen.facts, Cert.KernelResLnIdeal.Gen.facts, Cert.ReferenceResLnIdeal.Gen.facts,
    Cert.KernelFilters.Gen.facts, Cert.KernelFiltersIdeal.Gen.facts, Cert.ReferenceFiltersIdeal.Gen.facts,
    Attn.frame_kernel, Attn.frame_ideal, Attn.frame_reference,
    Ln0.frame_kernel, Ln0.frame_ideal, Ln0.frame_reference,
    InProj.frame_kernel, InProj.frame_ideal, InProj.frame_reference,
    Mix.frame_kernel, Mix.frame_ideal, Mix.frame_reference,
    ResLn.frame_kernel, ResLn.frame_ideal, ResLn.frame_reference,
    Filters.frame_kernel, Filters.frame_ideal, Filters.frame_reference,
    Attn.preserves, Attn.algebraic, trivial, Ln0.algebraic, trivial, InProj.algebraic, trivial, Mix.algebraic, trivial, ResLn.algebraic,
    trivial, Filters.algebraic⟩

end Cert.Proof

end
